-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x2048 : Shape := ⟨3, ![4, 4096, 2048]⟩
abbrev S16x2048 : Shape := ⟨2, ![16, 2048]⟩
abbrev S16 : Shape := ⟨1, ![16]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4x4096x2048 .f32) (main_arg1 : FVec F S16x2048 .f32) (main_arg2 : FVec F S16 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S4x4096x2048 : Shape := ⟨3, ![4, 4096, 2048]⟩
abbrev S16x2048 : Shape := ⟨2, ![16, 2048]⟩
abbrev S16 : Shape := ⟨1, ![16]⟩
abbrev S16384x2048 : Shape := ⟨2, ![16384, 2048]⟩
abbrev S1x16 : Shape := ⟨2, ![1, 16]⟩
abbrev S4x16x4096 : Shape := ⟨3, ![4, 16, 4096]⟩
abbrev S4x2x4096 : Shape := ⟨3, ![4, 2, 4096]⟩
abbrev S6144x2048 : Shape := ⟨2, ![6144, 2048]⟩
abbrev S24 : Shape := ⟨1, ![24]⟩
abbrev S16x1 : Shape := ⟨2, ![16, 1]⟩
abbrev S1 : Shape := ⟨1, ![1]⟩
abbrev S_ : Shape := ⟨0, ![]⟩
abbrev S256x2048 : Shape := ⟨2, ![256, 2048]⟩
abbrev S1024x2048 : Shape := ⟨2, ![1024, 2048]⟩
abbrev S16x1024 : Shape := ⟨2, ![16, 1024]⟩
abbrev S1024 : Shape := ⟨1, ![1024]⟩
abbrev S1x1024 : Shape := ⟨2, ![1, 1024]⟩
abbrev S1x16x1024 : Shape := ⟨3, ![1, 16, 1024]⟩
abbrev S2x1024 : Shape := ⟨2, ![2, 1024]⟩
abbrev S1x2x1024 : Shape := ⟨3, ![1, 2, 1024]⟩
abbrev S4x4096x16 : Shape := ⟨3, ![4, 4096, 16]⟩
abbrev S4x4096x2 : Shape := ⟨3, ![4, 4096, 2]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S16384x2048, .f32⟩
  | .hbm, ⟨4, _⟩ => ⟨S1x16, .f32⟩
  | .hbm, ⟨5, _⟩ => ⟨S4x16x4096, .f32⟩
  | .hbm, ⟨6, _⟩ => ⟨S4x2x4096, .f32⟩
  | .hbm, ⟨7, _⟩ => ⟨S4x2x4096, .i32⟩
  | .hbm, ⟨8, _⟩ => ⟨S4x4096x16, .f32⟩
  | .hbm, ⟨9, _⟩ => ⟨S4x4096x2, .f32⟩
  | .hbm, ⟨10, _⟩ => ⟨S4x4096x2, .i32⟩
  | .local _ .vmem, ⟨0, _⟩ => ⟨S16x2048, .f32⟩
  | .local _ .vmem, ⟨1, _⟩ => ⟨S1x16, .f32⟩
  | .local _ .vmem, ⟨2, _⟩ => ⟨S4x16x4096, .f32⟩
  | .local _ .vmem, ⟨3, _⟩ => ⟨S4x2x4096, .f32⟩
  | .local _ .vmem, ⟨4, _⟩ => ⟨S4x2x4096, .i32⟩
  | .local _ .vmem, ⟨5, _⟩ => ⟨S6144x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_76 : BitVec 32 := 0#32
  let c16_i32_77 : BitVec 32 := 16#32
  let v100 : BitVec 32 := Scalar.addi c0_i32_76 c16_i32_77
  let c1_i32_78 : BitVec 32 := 1#32
  ⟨c0_i32_76, v100, c1_i32_78⟩
def k0_off1 (k0_t1 : Fin k0_t1_loop.trips) (c0_i32_86 : BitVec 32) : Fin 1 → Nat :=
  let c0_i32_76 : BitVec 32 := 0#32
  let c1_i32_78 : BitVec 32 := 1#32
  let arg8 : BitVec 32 := Scf.iv c0_i32_76 c1_i32_78 k0_t1
  let c6_i32_80 : BitVec 32 := 6#32
  let v101 : BitVec 32 := Scalar.remsi arg8 c6_i32_80
  let c4_i32_85 : BitVec 32 := 4#32
  let v106 : BitVec 32 := Scalar.muli v101 c4_i32_85
  let v107 : BitVec 32 := Scalar.addi v106 c0_i32_86
  ![v107.toNat]
def k0_off2 (k0_t1 : Fin k0_t1_loop.trips) (c0_i32_84 : BitVec 32) : Fin 2 → Nat :=
  let c0_i32_76 : BitVec 32 := 0#32
  let c1_i32_78 : BitVec 32 := 1#32
  let arg8 : BitVec 32 := Scf.iv c0_i32_76 c1_i32_78 k0_t1
  let c6_i32_80 : BitVec 32 := 6#32
  let v101 : BitVec 32 := Scalar.remsi arg8 c6_i32_80
  let c1024_i32_83 : BitVec 32 := 1024#32
  let v104 : BitVec 32 := Scalar.muli v101 c1024_i32_83
  let v105 : BitVec 32 := Scalar.addi v104 c0_i32_84
  let c0_i32_87 : BitVec 32 := 0#32
  ![v105.toNat, 0]
def k0_off3 (k0_t1 : Fin k0_t1_loop.trips) (c0_i32_82 : BitVec 32) : Fin 2 → Nat :=
  let c0_i32_76 : BitVec 32 := 0#32
  let c1_i32_78 : BitVec 32 := 1#32
  let arg8 : BitVec 32 := Scf.iv c0_i32_76 c1_i32_78 k0_t1
  let c1024_i32_81 : BitVec 32 := 1024#32
  let v102 : BitVec 32 := Scalar.muli arg8 c1024_i32_81
  let v103 : BitVec 32 := Scalar.addi v102 c0_i32_82
  let c0_i32_88 : BitVec 32 := 0#32
  ![v103.toNat, 0]
def k0_off4 (k0_t1 : Fin k0_t1_loop.trips) : Fin 2 → Nat :=
  let c0_i32_76 : BitVec 32 := 0#32
  let c1_i32_78 : BitVec 32 := 1#32
  let arg8 : BitVec 32 := Scf.iv c0_i32_76 c1_i32_78 k0_t1
  let c6_i32_80 : BitVec 32 := 6#32
  let v101 : BitVec 32 := Scalar.remsi arg8 c6_i32_80
  let c1024_i32_113 : BitVec 32 := 1024#32
  let v142 : BitVec 32 := Scalar.muli v101 c1024_i32_113
  let v143 : Index := Scalar.indexCast v142
  let c0_114 : Index := 0#32
  ![v143.toNat, 0]
def k0_off5 (k0_t1 : Fin k0_t1_loop.trips) : Fin 3 → Nat :=
  let c0_i32_76 : BitVec 32 := 0#32
  let c1_i32_78 : BitVec 32 := 1#32
  let arg8 : BitVec 32 := Scf.iv c0_i32_76 c1_i32_78 k0_t1
  let c0_i32_125 : BitVec 32 := 0#32
  let v179 : BitVec 1 := Scalar.cmpi .sgt arg8 c0_i32_125
  let v180 : BitVec 32 := Scalar.extui v179
  let c0_i32_126 : BitVec 32 := 0#32
  let v181 : BitVec 1 := Scalar.cmpi .slt arg8 c0_i32_126
  let v182 : BitVec 32 := Scalar.extui v181
  let v183 : BitVec 32 := Scalar.subi v180 v182
  let c4_i32_124 : BitVec 32 := 4#32
  let c0_i32_127 : BitVec 32 := 0#32
  let v184 : BitVec 1 := Scalar.cmpi .sgt c4_i32_124 c0_i32_127
  let v185 : BitVec 32 := Scalar.extui v184
  let c0_i32_128 : BitVec 32 := 0#32
  let v186 : BitVec 1 := Scalar.cmpi .slt c4_i32_124 c0_i32_128
  let v187 : BitVec 32 := Scalar.extui v186
  let v188 : BitVec 32 := Scalar.subi v185 v187
  let v189 : BitVec 1 := Scalar.cmpi .ne v183 v188
  let v190 : BitVec 32 := Scalar.remsi arg8 c4_i32_124
  let c0_i32_129 : BitVec 32 := 0#32
  let v191 : BitVec 1 := Scalar.cmpi .ne v190 c0_i32_129
  let v192 : BitVec 1 := Scalar.andi v189 v191
  let v178 : BitVec 32 := Scalar.divsi arg8 c4_i32_124
  let c1_i32_130 : BitVec 32 := 1#32
  let v193 : BitVec 32 := Scalar.subi v178 c1_i32_130
  let v194 : BitVec 32 := Scalar.select v192 v193 v178
  let v206 : Index := Scalar.indexCast v194
  let c0_138 : Index := 0#32
  let c4_i32_131 : BitVec 32 := 4#32
  let c0_i32_132 : BitVec 32 := 0#32
  let v195 : BitVec 1 := Scalar.cmpi .eq c4_i32_131 c0_i32_132
  let c1_i32_133 : BitVec 32 := 1#32
  let v196 : BitVec 32 := Scalar.select v195 c1_i32_133 c4_i32_131
  let v197 : BitVec 32 := Scalar.remsi arg8 v196
  let c0_i32_135 : BitVec 32 := 0#32
  let v199 : BitVec 1 := Scalar.cmpi .slt v197 c0_i32_135
  let c0_i32_136 : BitVec 32 := 0#32
  let v200 : BitVec 1 := Scalar.cmpi .slt v196 c0_i32_136
  let v201 : BitVec 1 := Scalar.xori v199 v200
  let c0_i32_134 : BitVec 32 := 0#32
  let v198 : BitVec 1 := Scalar.cmpi .ne v197 c0_i32_134
  let v202 : BitVec 1 := Scalar.andi v201 v198
  let v203 : BitVec 32 := Scalar.addi v197 v196
  let v204 : BitVec 32 := Scalar.select v202 v203 v197
  let c1024_i32_137 : BitVec 32 := 1024#32
  let v205 : BitVec 32 := Scalar.muli v204 c1024_i32_137
  let v207 : Index := Scalar.indexCast v205
  ![v206.toNat, 0, v207.toNat]
def k0_off6 (k0_t1 : Fin k0_t1_loop.trips) : Fin 3 → Nat :=
  let c0_i32_76 : BitVec 32 := 0#32
  let c1_i32_78 : BitVec 32 := 1#32
  let arg8 : BitVec 32 := Scf.iv c0_i32_76 c1_i32_78 k0_t1
  let c0_i32_125 : BitVec 32 := 0#32
  let v179 : BitVec 1 := Scalar.cmpi .sgt arg8 c0_i32_125
  let v180 : BitVec 32 := Scalar.extui v179
  let c0_i32_126 : BitVec 32 := 0#32
  let v181 : BitVec 1 := Scalar.cmpi .slt arg8 c0_i32_126
  let v182 : BitVec 32 := Scalar.extui v181
  let v183 : BitVec 32 := Scalar.subi v180 v182
  let c4_i32_124 : BitVec 32 := 4#32
  let c0_i32_127 : BitVec 32 := 0#32
  let v184 : BitVec 1 := Scalar.cmpi .sgt c4_i32_124 c0_i32_127
  let v185 : BitVec 32 := Scalar.extui v184
  let c0_i32_128 : BitVec 32 := 0#32
  let v186 : BitVec 1 := Scalar.cmpi .slt c4_i32_124 c0_i32_128
  let v187 : BitVec 32 := Scalar.extui v186
  let v188 : BitVec 32 := Scalar.subi v185 v187
  let v189 : BitVec 1 := Scalar.cmpi .ne v183 v188
  let v190 : BitVec 32 := Scalar.remsi arg8 c4_i32_124
  let c0_i32_129 : BitVec 32 := 0#32
  let v191 : BitVec 1 := Scalar.cmpi .ne v190 c0_i32_129
  let v192 : BitVec 1 := Scalar.andi v189 v191
  let v178 : BitVec 32 := Scalar.divsi arg8 c4_i32_124
  let c1_i32_130 : BitVec 32 := 1#32
  let v193 : BitVec 32 := Scalar.subi v178 c1_i32_130
  let v194 : BitVec 32 := Scalar.select v192 v193 v178
  let v212 : Index := Scalar.indexCast v194
  let c0_139 : Index := 0#32
  let c4_i32_131 : BitVec 32 := 4#32
  let c0_i32_132 : BitVec 32 := 0#32
  let v195 : BitVec 1 := Scalar.cmpi .eq c4_i32_131 c0_i32_132
  let c1_i32_133 : BitVec 32 := 1#32
  let v196 : BitVec 32 := Scalar.select v195 c1_i32_133 c4_i32_131
  let v197 : BitVec 32 := Scalar.remsi arg8 v196
  let c0_i32_135 : BitVec 32 := 0#32
  let v199 : BitVec 1 := Scalar.cmpi .slt v197 c0_i32_135
  let c0_i32_136 : BitVec 32 := 0#32
  let v200 : BitVec 1 := Scalar.cmpi .slt v196 c0_i32_136
  let v201 : BitVec 1 := Scalar.xori v199 v200
  let c0_i32_134 : BitVec 32 := 0#32
  let v198 : BitVec 1 := Scalar.cmpi .ne v197 c0_i32_134
  let v202 : BitVec 1 := Scalar.andi v201 v198
  let v203 : BitVec 32 := Scalar.addi v197 v196
  let v204 : BitVec 32 := Scalar.select v202 v203 v197
  let c1024_i32_137 : BitVec 32 := 1024#32
  let v205 : BitVec 32 := Scalar.muli v204 c1024_i32_137
  let v213 : Index := Scalar.indexCast v205
  ![v212.toNat, 0, v213.toNat]
def k0_cond1 (k0_t1 : Fin k0_t1_loop.trips) : BitVec 1 :=
  let c0_i32_76 : BitVec 32 := 0#32
  let c1_i32_78 : BitVec 32 := 1#32
  let arg8 : BitVec 32 := Scf.iv c0_i32_76 c1_i32_78 k0_t1
  let c6_i32_141 : BitVec 32 := 6#32
  let v223 : BitVec 32 := Scalar.addi arg8 c6_i32_141
  let c16_i32_142 : BitVec 32 := 16#32
  let v224 : BitVec 1 := Scalar.cmpi .slt v223 c16_i32_142
  let v225 : BitVec 32 := Scalar.extui v224
  let c0_i32_143 : BitVec 32 := 0#32
  let v226 : BitVec 1 := Scalar.cmpi .ne v225 c0_i32_143
  v226

def k0_off7 (k0_t1 : Fin k0_t1_loop.trips) (c0_i32_150 : BitVec 32) : Fin 1 → Nat :=
  let c0_i32_76 : BitVec 32 := 0#32
  let c1_i32_78 : BitVec 32 := 1#32
  let arg8 : BitVec 32 := Scf.iv c0_i32_76 c1_i32_78 k0_t1
  let c6_i32_80 : BitVec 32 := 6#32
  let v101 : BitVec 32 := Scalar.remsi arg8 c6_i32_80
  let c4_i32_149 : BitVec 32 := 4#32
  let v232 : BitVec 32 := Scalar.muli v101 c4_i32_149
  let v233 : BitVec 32 := Scalar.addi v232 c0_i32_150
  ![v233.toNat]
def k0_off8 (k0_t1 : Fin k0_t1_loop.trips) (c0_i32_148 : BitVec 32) : Fin 2 → Nat :=
  let c0_i32_76 : BitVec 32 := 0#32
  let c1_i32_78 : BitVec 32 := 1#32
  let arg8 : BitVec 32 := Scf.iv c0_i32_76 c1_i32_78 k0_t1
  let c6_i32_80 : BitVec 32 := 6#32
  let v101 : BitVec 32 := Scalar.remsi arg8 c6_i32_80
  let c1024_i32_147 : BitVec 32 := 1024#32
  let v230 : BitVec 32 := Scalar.muli v101 c1024_i32_147
  let v231 : BitVec 32 := Scalar.addi v230 c0_i32_148
  let c0_i32_151 : BitVec 32 := 0#32
  ![v231.toNat, 0]
def k0_off9 (k0_t1 : Fin k0_t1_loop.trips) (c0_i32_146 : BitVec 32) : Fin 2 → Nat :=
  let c0_i32_76 : BitVec 32 := 0#32
  let c1_i32_78 : BitVec 32 := 1#32
  let arg8 : BitVec 32 := Scf.iv c0_i32_76 c1_i32_78 k0_t1
  let c6_i32_144 : BitVec 32 := 6#32
  let v227 : BitVec 32 := Scalar.addi arg8 c6_i32_144
  let c1024_i32_145 : BitVec 32 := 1024#32
  let v228 : BitVec 32 := Scalar.muli v227 c1024_i32_145
  let v229 : BitVec 32 := Scalar.addi v228 c0_i32_146
  let c0_i32_152 : BitVec 32 := 0#32
  ![v229.toNat, 0]
abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x4096x2048 : Shape := ⟨3, ![4, 4096, 2048]⟩
abbrev S16x2048 : Shape := ⟨2, ![16, 2048]⟩
abbrev S16 : Shape := ⟨1, ![16]⟩
abbrev S16384x2048 : Shape := ⟨2, ![16384, 2048]⟩
abbrev S2048x16 : Shape := ⟨2, ![2048, 16]⟩
abbrev S16384x16 : Shape := ⟨2, ![16384, 16]⟩
abbrev S1x16 : Shape := ⟨2, ![1, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩
abbrev S4x4096x16 : Shape := ⟨3, ![4, 4096, 16]⟩
abbrev S4x4096x2 : Shape := ⟨3, ![4, 4096, 2]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S16384x2048, .f32⟩
  | .hbm, ⟨4, _⟩ => ⟨S2048x16, .f32⟩
  | .hbm, ⟨5, _⟩ => ⟨S16384x16, .f32⟩
  | .hbm, ⟨6, _⟩ => ⟨S1x16, .f32⟩
  | .hbm, ⟨7, _⟩ => ⟨S16384x16, .f32⟩
  | .hbm, ⟨8, _⟩ => ⟨S16384x16, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x16, .f32⟩
  | .hbm, ⟨22, _⟩ => ⟨S16384x16, .f32⟩
  | .hbm, ⟨23, _⟩ => ⟨S16384x2, .f32⟩
  | .hbm, ⟨24, _⟩ => ⟨S16384x2, .i32⟩
  | .hbm, ⟨25, _⟩ => ⟨S4x4096x16, .f32⟩
  | .hbm, ⟨26, _⟩ => ⟨S4x4096x2, .f32⟩
  | .hbm, ⟨27, _⟩ => ⟨S4x4096x2, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Ideal.Ring.lean ====
/-
  The streaming buffer of the router kernel: six slots of 1024 rows, each filled by four transfers of 256 rows, one DMA
  cell per transfer. This module names the pieces, says what a piece's owner holds (free, in flight, landed), and proves
  the two steps of a transfer: its issue and its wait.
-/
module

public import proofs.«01_k».proof.Proof.Gen.KernelIdeal.Frame
public import proofs.«01_k».proof.Proof.Gen.KernelIdeal.Loops
public import Idealize.ShloMosaic.Lib.Ring
public import Idealize.ShloMosaic.Lib.Ring.Trips
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## Names -/

/-- The token array in HBM, whole. -/
abbrev xM : Memref sig .tc .hbm S16384x2048 .f32 := Memref.whole main_v0
/-- The streaming buffer, whole. -/
abbrev scM : Memref sig .tc .vmem S6144x2048 .f32 := Memref.whole cc0_scratch0

/-- The contents of the token array. -/
abbrev XBuf (F : FTy → Type) : Type := S16384x2048.Idx → Elt F .f32
/-- The contents of the streaming buffer. -/
abbrev SBuf (F : FTy → Type) : Type := S6144x2048.Idx → Elt F .f32

/-- The element of the token array in row `r` (below 16384) and column `j`. -/
def rowX (r : ℕ) (j : Fin 2048) : S16384x2048.Idx := fun a =>
  match a with
  | 0 => (⟨r % 16384, Nat.mod_lt _ (by decide)⟩ : Fin 16384)
  | 1 => j

/-- Rows `256 p ‥ 256 p + 255` of the streaming buffer. -/
def pcS (p : ℕ) : Finset S6144x2048.Idx := Finset.univ.filter fun i => 256 * p ≤ (i 0).val ∧ (i 0).val < 256 * p + 256
/-- Rows `256 q ‥ 256 q + 255` of the token array. -/
def pcX (q : ℕ) : Finset S16384x2048.Idx := Finset.univ.filter fun i => 256 * q ≤ (i 0).val ∧ (i 0).val < 256 * q + 256

/-- The DMA cell of piece `p`. -/
def cellOf (p : Fin 24) : DmaSem sig := ⟨5 + p.val, by have := p.isLt; show 5 + p.val < 29; omega⟩

/-- The units one transfer of 256 rows is counted by. -/
def amt : ℕ := (scM.slice (Rect.unit (s := S6144x2048) ![0, 0] S256x2048.size inb_S6144x2048_S256x2048_0_0) (fun _ => rfl)).view.dmaCredit

/-- Slot `s` of the streaming buffer once block `b` of the token array has landed in it. -/
def landed (X : XBuf F) (s b : ℕ) : SBuf F := fun i => X (rowX (1024 * b + ((i 0).val - 1024 * s)) (i 1))

/-- The share of the token array piece `p`'s transfers read by. -/
abbrev tokX (p : ℕ) : PosShare TreeShare := shareTokN fullShare p

/-- Piece `p`'s cell at zero. -/
def cell0 (c : Dev nD) (p : Fin 24) : sProp 𝕄 := semVal ((c : Thread nD τ), SemLoc.dma (cellOf p)) 0
/-- Piece `p` of the streaming buffer at contents `f`. -/
def pieceS (c : Dev nD) (p : ℕ) (f : SBuf F) : sProp 𝕄 := ((c : Thread nD τ).loc cc0_scratch0) ↦[pcS p]{fullShare} f
/-- Piece `p`'s share of the whole token array. -/
def shareX (c : Dev nD) (X : XBuf F) (p : ℕ) : sProp 𝕄 := ((c : Thread nD τ).loc main_v0) ↦{tokX p} X

/-- Piece `p` not in use: its cell at zero, its rows at some contents, its share of the token array. -/
def pfree (c : Dev nD) (X : XBuf F) (p : Fin 24) : sProp 𝕄 :=
  iprop(cell0 c p ∗ (∃ f, pieceS c p.val f) ∗ shareX c X p.val)
/-- Piece `p` (quarter `j` of slot `s`, `p = 4 s + j`) holding the same quarter of block `b`. -/
def pgot (c : Dev nD) (X : XBuf F) (p : Fin 24) (s b : ℕ) : sProp 𝕄 :=
  iprop(cell0 c p ∗ pieceS c p.val (landed X s b) ∗ shareX c X p.val)
/-- Piece `p` with the transfer of piece `q` of the token array in flight. -/
def pfly (c : Dev nD) (X : XBuf F) (p : Fin 24) (s b q : ℕ) : sProp 𝕄 :=
  iprop(Flight (countersEmb (U := Pipeline.UD sig nD τ)) (c : Thread nD τ) (SemLoc.dma (cellOf p)) () amt
      iprop(pieceS c p.val (landed X s b) ∗ ((c : Thread nD τ).loc main_v0) ↦[pcX q]{tokX p.val} X)
    ∗ ((c : Thread nD τ).loc main_v0) ↦[Finset.univ \ pcX q]{tokX p.val} X)

/-! ## Elements of the pieces -/

theorem mem_pcS (p : ℕ) (i : S6144x2048.Idx) : i ∈ pcS p ↔ 256 * p ≤ (i 0).val ∧ (i 0).val < 256 * p + 256 := by
  unfold pcS; simp only [Finset.mem_filter, Finset.mem_univ, true_and]
theorem mem_pcX (q : ℕ) (i : S16384x2048.Idx) : i ∈ pcX q ↔ 256 * q ≤ (i 0).val ∧ (i 0).val < 256 * q + 256 := by
  unfold pcX; simp only [Finset.mem_filter, Finset.mem_univ, true_and]

/-- The rectangle of 256 rows from row `256 p` is piece `p` of the streaming buffer. -/
theorem set_pcS (p : ℕ) (h : ∀ a, (![256 * p, 0] : Fin 2 → ℕ) a + S256x2048.size a ≤ S6144x2048.size a) :
    (scM.slice (Rect.unit (s := S6144x2048) ![256 * p, 0] S256x2048.size h) (fun _ => rfl)).view.set = pcS p := by
  show (View.slice (View.whole cc0_scratch0) _).set = _
  rw [View.set_slice_whole]
  ext i
  rw [mem_pcS]
  refine Rect.mem_set_unit.trans ⟨fun hi => hi 0, fun hi a => ?_⟩
  fin_cases a
  · exact hi
  · exact ⟨Nat.zero_le _, by have : (i 1).val < 2048 := (i 1).isLt
                             show (i 1).val < 0 + 2048; omega⟩
/-- The rectangle of 256 rows from row `256 q` is piece `q` of the token array. -/
theorem set_pcX (q : ℕ) (h : ∀ a, (![256 * q, 0] : Fin 2 → ℕ) a + S256x2048.size a ≤ S16384x2048.size a) :
    (xM.slice (Rect.unit (s := S16384x2048) ![256 * q, 0] S256x2048.size h) (fun _ => rfl)).view.set = pcX q := by
  show (View.slice (View.whole main_v0) _).set = _
  rw [View.set_slice_whole]
  ext i
  rw [mem_pcX]
  refine Rect.mem_set_unit.trans ⟨fun hi => hi 0, fun hi a => ?_⟩
  fin_cases a
  · exact hi
  · exact ⟨Nat.zero_le _, by have : (i 1).val < 2048 := (i 1).isLt
                             show (i 1).val < 0 + 2048; omega⟩

/-- The cell a computed index names. -/
theorem cell_eq (p : Fin 24) (n : ℕ) (hn : p.val = n) (h : ∀ a, (![n] : Fin 1 → ℕ) a + S1.size a ≤ S24.size a) :
    ((cc0_scratch1.slice (Rect.unit (s := S24) ![n] S1.size h)).squeeze S_ squeezes_S1_S_).sem = cellOf p := by
  subst hn; revert p; decide

/-- What a transfer of piece `q = 4 b + j` of the token array leaves in piece `p = 4 s + j` of the streaming buffer. -/
theorem landed_write (X : XBuf F) (f : SBuf F) (s b j : ℕ) (hj : j < 4) (hb : b < 16)
    (hd : ∀ a, (![256 * (4 * s + j), 0] : Fin 2 → ℕ) a + S256x2048.size a ≤ S6144x2048.size a)
    (hx : ∀ a, (![256 * (4 * b + j), 0] : Fin 2 → ℕ) a + S256x2048.size a ≤ S16384x2048.size a) :
    ∀ i ∈ pcS (4 * s + j),
      (scM.slice (Rect.unit (s := S6144x2048) ![256 * (4 * s + j), 0] S256x2048.size hd) (fun _ => rfl)).view.write (Elt F) f
        ((xM.slice (Rect.unit (s := S16384x2048) ![256 * (4 * b + j), 0] S256x2048.size hx) (fun _ => rfl)).view.read (Elt F) X)
        Finset.univ i = landed X s b i := by
  intro i hi
  rw [← set_pcS _ hd, View.set, Finset.mem_map] at hi
  obtain ⟨y, -, rfl⟩ := hi
  refine (View.write_emb_of_mem _ _ (Finset.mem_univ y)).trans ?_
  rw [cast_eq, View.read_apply, cast_eq]
  unfold landed
  congr 1
  funext a
  have h0 : (y 0).val < 256 := (y 0).isLt
  fin_cases a
  · apply Fin.ext
    show 256 * (4 * b + j) + 1 * (y 0).val = (1024 * b + ((256 * (4 * s + j) + 1 * (y 0).val) - 1024 * s)) % 16384
    omega
  · apply Fin.ext
    show 0 + 1 * (y 1).val = 0 + 1 * (y 1).val
    rfl

/-! ## The two steps of a transfer -/

/-- A piece landed is a piece not in use. -/
theorem pgot_free (c : Dev nD) (X : XBuf F) (p : Fin 24) (s b : ℕ) : pgot c X p s b ⊢ pfree c X p := by
  unfold pgot pfree
  iintro ⟨Hc, Hp, Hx⟩
  isplitl [Hc]; · iexact Hc
  isplitl [Hp]; · iexists _; iexact Hp
  iexact Hx

/-- The units of a transfer do not depend on where it lands. -/
theorem amt_pos : 0 < amt :=
  View.amount_pos (scM.slice (Rect.unit (s := S6144x2048) ![0, 0] S256x2048.size inb_S6144x2048_S256x2048_0_0) (fun _ => rfl)).view
    (SemLoc.dma (cellOf 0)) (by decide)

/-- THE ISSUE: on a piece not in use the core starts the transfer of quarter `j` of block `b` and goes on with it in flight. -/
theorem issue {α : Type} (c : Dev nD) (X : XBuf F) (p : Fin 24) (s b j : ℕ) (hp : p.val = 4 * s + j) (hj : j < 4) (hb : b < 16)
    {offC : Fin 1 → ℕ} {offD offS : Fin 2 → ℕ}
    (eC : offC = ![4 * s + j]) (eD : offD = ![256 * (4 * s + j), 0]) (eS : offS = ![256 * (4 * b + j), 0])
    (hC : ∀ a, offC a + S1.size a ≤ S24.size a) (hD : ∀ a, offD a + S256x2048.size a ≤ S6144x2048.size a)
    (hS : ∀ a, offS a + S256x2048.size a ≤ S16384x2048.size a)
    {hsrc : (xM.slice (Rect.unit (s := S16384x2048) offS S256x2048.size hS) (fun _ => rfl)).view.WordExact}
    {hdst : (scM.slice (Rect.unit (s := S6144x2048) offD S256x2048.size hD) (fun _ => rfl)).view.WordExact}
    {hsem : (DmaTarget.here (scM.slice (Rect.unit (s := S6144x2048) offD S256x2048.size hD) (fun _ => rfl))
        : DmaTarget nD τ sig .tc .vmem S256x2048 .f32).Typed .hbm
      (SemLoc.dma ((cc0_scratch1.slice (Rect.unit (s := S24) offC S1.size hC)).squeeze S_ squeezes_S1_S_).sem)}
    {k : PUnit → Prog (TpuEff nD τ sig (Elt F) Λ₀ .tc) α} {Q : α → sProp 𝕄} :
    pfree c X p
      ⊢ iprop((pfly c X p s b (4 * b + j) -∗ wp frame (wpE (defs₀ (F := F)) Variants.none (c : Thread nD τ) none) Set.univ (k ⟨⟩) Q)
          -∗ wp frame (wpE (defs₀ (F := F)) Variants.none (c : Thread nD τ) none) Set.univ
              (.op (.enqueueDma (xM.slice (Rect.unit (s := S16384x2048) offS S256x2048.size hS) (fun _ => rfl))
                (.here (scM.slice (Rect.unit (s := S6144x2048) offD S256x2048.size hD) (fun _ => rfl)))
                (SemLoc.dma ((cc0_scratch1.slice (Rect.unit (s := S24) offC S1.size hC)).squeeze S_ squeezes_S1_S_).sem) hsrc hdst hsem) k) Q) := by
  subst eC eD eS
  have hcell : ((cc0_scratch1.slice (Rect.unit (s := S24) ![4 * s + j] S1.size hC)).squeeze S_ squeezes_S1_S_).sem = cellOf p :=
    cell_eq p _ hp hC
  unfold pfree pfly cell0 pieceS shareX
  iintro ⟨Hc, ⟨%f, Hp⟩, Hx⟩ Hk
  ihave Hx := (pointsTo_split_subset (Finset.subset_univ (pcX (4 * b + j)))).1 $$ Hx
  icases Hx with ⟨Hx, Hrest⟩
  rw [← set_pcX (4 * b + j) hS, hp, ← hcell]
  iapply (wp_dmaLocal (countersEmb (U := Pipeline.UD sig nD τ)) Variants.none (c : Thread nD τ) none () amt rfl amt_pos
    (le_of_eq (set_pcS (4 * s + j) hD))) $$ [Hx Hp Hc]
  · isplitl [Hx]; · iexact Hx
    isplitl [Hp]; · iexact Hp
    iexact Hc
  iintro Hf
  iapply Hk
  isplitl [Hf]
  · iapply (Flight_mono (countersEmb (U := Pipeline.UD sig nD τ)) (c : Thread nD τ) ?_) $$ Hf
    refine sep_mono ?_ .rfl
    exact Entails.of_eq (pointsTo_congr (landed_write X f s b j hj hb hD hS))
  · iexact Hrest

/-- THE WAIT: with the transfer in flight the core waits for it and goes on with the piece landed. -/
theorem await {α : Type} (c : Dev nD) (X : XBuf F) (p : Fin 24) (s b j q : ℕ) (hp : p.val = 4 * s + j)
    {offC : Fin 1 → ℕ} {offD offS : Fin 2 → ℕ} (eC : offC = ![4 * s + j])
    (hC : ∀ a, offC a + S1.size a ≤ S24.size a) (hD : ∀ a, offD a + S256x2048.size a ≤ S6144x2048.size a)
    (hS : ∀ a, offS a + S256x2048.size a ≤ S16384x2048.size a)
    {hsrc : (xM.slice (Rect.unit (s := S16384x2048) offS S256x2048.size hS) (fun _ => rfl)).view.WordExact}
    {hdst : (scM.slice (Rect.unit (s := S6144x2048) offD S256x2048.size hD) (fun _ => rfl)).view.WordExact}
    {k : PUnit → Prog (TpuEff nD τ sig (Elt F) Λ₀ .tc) α} {Q : α → sProp 𝕄} :
    iprop(pfly c X p s b q ∗ ∃ W, owes (c : Thread nD τ) 0 W)
      ⊢ iprop((iprop(pgot c X p s b ∗ ∃ W, owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.waitDma2 ((cc0_scratch1.slice (Rect.unit (s := S24) offC S1.size hC)).squeeze S_ squeezes_S1_S_).sem
                (xM.slice (Rect.unit (s := S16384x2048) offS S256x2048.size hS) (fun _ => rfl))
                (scM.slice (Rect.unit (s := S6144x2048) offD S256x2048.size hD) (fun _ => rfl)) hsrc hdst) k) Q) := by
  subst eC
  have hcell : ((cc0_scratch1.slice (Rect.unit (s := S24) ![4 * s + j] S1.size hC)).squeeze S_ squeezes_S1_S_).sem = cellOf p :=
    cell_eq p _ hp hC
  unfold pgot pfly cell0 pieceS shareX
  iintro ⟨⟨Hf, Hrest⟩, ⟨%W, HW⟩⟩ Hk
  rw [← hcell]
  iapply (wp_waitLocal (countersEmb (U := Pipeline.UD sig nD τ)) Variants.none (c : Thread nD τ) none (srcw := xM.slice (Rect.unit (s := S16384x2048) offS S256x2048.size hS) (fun _ => rfl))
    (dstw := scM.slice (Rect.unit (s := S6144x2048) offD S256x2048.size hD) (fun _ => rfl)) (hsrc := hsrc) (hdst := hdst) () (N := amt) rfl) $$ [Hf HW]
  · isplitl [Hf]; · iexact Hf
    iexact HW
  iintro ⟨⟨Hp, Hx⟩, Hc, HW⟩
  iapply Hk
  isplitl [Hc Hp Hx Hrest]
  · isplitl [Hc]; · iexact Hc
    isplitl [Hp]; · iexact Hp
    iapply (pointsTo_split_subset (Finset.subset_univ (pcX q))).2
    isplitl [Hx]; · iexact Hx
    iexact Hrest
  · iexists _; iexact HW

end Cert.KernelIdeal.Hand

end
-- ==== Proof.Ideal.Slot.lean ====
/-
  One slot of the streaming buffer: its four pieces in flight, landed and free; the 1024 rows a landed slot is read by;
  and the ring of six slots before each trip of the loop.
-/
module

public import proofs.«01_k».proof.Proof.Ideal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The steps at an operation -/

/-- The state of one core's program. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The issue, as an operation with what follows it in the postcondition. -/
theorem issueL (c : Dev nD) (X : XBuf F) (p : Fin 24) (s b j : ℕ) (hp : p.val = 4 * s + j) (hj : j < 4) (hb : b < 16)
    {offC : Fin 1 → ℕ} {offD offS : Fin 2 → ℕ}
    (eC : offC = ![4 * s + j]) (eD : offD = ![256 * (4 * s + j), 0]) (eS : offS = ![256 * (4 * b + j), 0])
    (hC : ∀ a, offC a + S1.size a ≤ S24.size a) (hD : ∀ a, offD a + S256x2048.size a ≤ S6144x2048.size a)
    (hS : ∀ a, offS a + S256x2048.size a ≤ S16384x2048.size a)
    {hsrc : (xM.slice (Rect.unit (s := S16384x2048) offS S256x2048.size hS) (fun _ => rfl)).view.WordExact}
    {hdst : (scM.slice (Rect.unit (s := S6144x2048) offD S256x2048.size hD) (fun _ => rfl)).view.WordExact}
    {hsem : (DmaTarget.here (scM.slice (Rect.unit (s := S6144x2048) offD S256x2048.size hD) (fun _ => rfl))
        : DmaTarget nD τ sig .tc .vmem S256x2048 .f32).Typed .hbm
      (SemLoc.dma ((cc0_scratch1.slice (Rect.unit (s := S24) offC S1.size hC)).squeeze S_ squeezes_S1_S_).sem)}
    {Q : PUnit → sProp 𝕄} :
    pfree c X p
      ⊢ iprop((pfly c X p s b (4 * b + j) -∗ Q ⟨⟩)
          -∗ wpK c (Prog.lift (.enqueueDma (xM.slice (Rect.unit (s := S16384x2048) offS S256x2048.size hS) (fun _ => rfl))
                (.here (scM.slice (Rect.unit (s := S6144x2048) offD S256x2048.size hD) (fun _ => rfl)))
                (SemLoc.dma ((cc0_scratch1.slice (Rect.unit (s := S24) offC S1.size hC)).squeeze S_ squeezes_S1_S_).sem) hsrc hdst hsem)) Q) := by
  iintro H Hk
  iapply (issue c X p s b j hp hj hb eC eD eS hC hD hS (k := Prog.ret)) $$ H
  iintro H
  rw [wp_ret]
  imodintro
  iapply Hk; iexact H

/-- The wait, as an operation with what follows it in the postcondition. -/
theorem awaitL (c : Dev nD) (X : XBuf F) (p : Fin 24) (s b j q : ℕ) (hp : p.val = 4 * s + j)
    {offC : Fin 1 → ℕ} {offD offS : Fin 2 → ℕ} (eC : offC = ![4 * s + j])
    (hC : ∀ a, offC a + S1.size a ≤ S24.size a) (hD : ∀ a, offD a + S256x2048.size a ≤ S6144x2048.size a)
    (hS : ∀ a, offS a + S256x2048.size a ≤ S16384x2048.size a)
    {hsrc : (xM.slice (Rect.unit (s := S16384x2048) offS S256x2048.size hS) (fun _ => rfl)).view.WordExact}
    {hdst : (scM.slice (Rect.unit (s := S6144x2048) offD S256x2048.size hD) (fun _ => rfl)).view.WordExact}
    {Q : PUnit → sProp 𝕄} :
    iprop(pfly c X p s b q ∗ ∃ W, owes (c : Thread nD τ) 0 W)
      ⊢ iprop((iprop(pgot c X p s b ∗ ∃ W, owes (c : Thread nD τ) 0 W) -∗ Q ⟨⟩)
          -∗ wpK c (Prog.lift (.waitDma2 ((cc0_scratch1.slice (Rect.unit (s := S24) offC S1.size hC)).squeeze S_ squeezes_S1_S_).sem
                (xM.slice (Rect.unit (s := S16384x2048) offS S256x2048.size hS) (fun _ => rfl))
                (scM.slice (Rect.unit (s := S6144x2048) offD S256x2048.size hD) (fun _ => rfl)) hsrc hdst)) Q) := by
  iintro H Hk
  iapply (await c X p s b j q hp eC hC hD hS (k := Prog.ret)) $$ H
  iintro H
  rw [wp_ret]
  imodintro
  iapply Hk; iexact H

/-! ## Slots -/

/-- Quarter `j` of slot `s`. -/
abbrev pc (s : Fin 6) (j : Fin 4) : Fin 24 := ⟨4 * s.val + j.val, by have := s.isLt; have := j.isLt; omega⟩

/-- Slot `s` not in use. -/
def slotFree (c : Dev nD) (X : XBuf F) (s : Fin 6) : sProp 𝕄 :=
  iprop(pfree c X (pc s 0) ∗ pfree c X (pc s 1) ∗ pfree c X (pc s 2) ∗ pfree c X (pc s 3))
/-- Slot `s` with the four transfers of block `b` in flight. -/
def slotFly (c : Dev nD) (X : XBuf F) (s : Fin 6) (b : ℕ) : sProp 𝕄 :=
  iprop(pfly c X (pc s 0) s.val b (4 * b + 0) ∗ pfly c X (pc s 1) s.val b (4 * b + 1)
    ∗ pfly c X (pc s 2) s.val b (4 * b + 2) ∗ pfly c X (pc s 3) s.val b (4 * b + 3))
/-- Slot `s` holding block `b`. -/
def slotGot (c : Dev nD) (X : XBuf F) (s : Fin 6) (b : ℕ) : sProp 𝕄 :=
  iprop(pgot c X (pc s 0) s.val b ∗ pgot c X (pc s 1) s.val b ∗ pgot c X (pc s 2) s.val b ∗ pgot c X (pc s 3) s.val b)

/-- The rows of slot `s`. -/
def slotRows (s : ℕ) : Finset S6144x2048.Idx := pcS (4 * s + 0) ∪ (pcS (4 * s + 1) ∪ (pcS (4 * s + 2) ∪ pcS (4 * s + 3)))

theorem mem_slotRows (s : ℕ) (i : S6144x2048.Idx) : i ∈ slotRows s ↔ 1024 * s ≤ (i 0).val ∧ (i 0).val < 1024 * s + 1024 := by
  unfold slotRows
  simp only [Finset.mem_union, mem_pcS]
  omega

/-- Two pieces share no row. -/
theorem pcS_disjoint (p p' : ℕ) (h : p ≠ p') : Disjoint (pcS p) (pcS p') := by
  rw [Finset.disjoint_left]
  intro i hi hi'
  rw [mem_pcS] at hi hi'
  omega

/-- A slot landed is a slot not in use. -/
theorem slotGot_free (c : Dev nD) (X : XBuf F) (s : Fin 6) (b : ℕ) : slotGot c X s b ⊢ slotFree c X s := by
  unfold slotGot slotFree
  exact BIClass.sep_mono (pgot_free c X _ _ _) (BIClass.sep_mono (pgot_free c X _ _ _) (BIClass.sep_mono (pgot_free c X _ _ _) (pgot_free c X _ _ _)))

/-- The four pieces of a slot at one contents are its rows at that contents. -/
theorem slot_pieces (c : Dev nD) (s : ℕ) (f : SBuf F) :
    (((c : Thread nD τ).loc cc0_scratch0) ↦[slotRows s]{fullShare} f : sProp 𝕄)
      ⊣⊢ iprop(pieceS c (4 * s + 0) f ∗ pieceS c (4 * s + 1) f ∗ pieceS c (4 * s + 2) f ∗ pieceS c (4 * s + 3) f) := by
  unfold slotRows pieceS
  refine (pointsTo_union ?_).trans (sep_congr .rfl ((pointsTo_union ?_).trans (sep_congr .rfl (pointsTo_union ?_))))
  · simp only [Finset.disjoint_union_right]
    exact ⟨pcS_disjoint _ _ (by omega), pcS_disjoint _ _ (by omega), pcS_disjoint _ _ (by omega)⟩
  · simp only [Finset.disjoint_union_right]
    exact ⟨pcS_disjoint _ _ (by omega), pcS_disjoint _ _ (by omega)⟩
  · exact pcS_disjoint _ _ (by omega)

/-- A landed slot lends its rows, held at the block. -/
theorem slotGot_rows (c : Dev nD) (X : XBuf F) (s : Fin 6) (b : ℕ) :
    slotGot c X s b ⊢ iprop((((c : Thread nD τ).loc cc0_scratch0) ↦[slotRows s.val]{fullShare} (landed X s.val b : SBuf F))
      ∗ ((((c : Thread nD τ).loc cc0_scratch0) ↦[slotRows s.val]{fullShare} (landed X s.val b : SBuf F)) -∗ slotGot c X s b)) := by
  unfold slotGot pgot
  iintro ⟨⟨Hc0, Hp0, Hx0⟩, ⟨Hc1, Hp1, Hx1⟩, ⟨Hc2, Hp2, Hx2⟩, ⟨Hc3, Hp3, Hx3⟩⟩
  isplitl [Hp0 Hp1 Hp2 Hp3]
  · iapply (slot_pieces c s.val _).2
    isplitl [Hp0]; · iexact Hp0
    isplitl [Hp1]; · iexact Hp1
    isplitl [Hp2]; · iexact Hp2
    iexact Hp3
  iintro H
  ihave H := (slot_pieces c s.val _).1 $$ H
  icases H with ⟨Hp0, Hp1, Hp2, Hp3⟩
  isplitl [Hc0 Hp0 Hx0]
  · isplitl [Hc0]; · iexact Hc0
    isplitl [Hp0]; · iexact Hp0
    iexact Hx0
  isplitl [Hc1 Hp1 Hx1]
  · isplitl [Hc1]; · iexact Hc1
    isplitl [Hp1]; · iexact Hp1
    iexact Hx1
  isplitl [Hc2 Hp2 Hx2]
  · isplitl [Hc2]; · iexact Hc2
    isplitl [Hp2]; · iexact Hp2
    iexact Hx2
  · isplitl [Hc3]; · iexact Hc3
    isplitl [Hp3]; · iexact Hp3
    iexact Hx3

/-- Block `b` of the token array: its 1024 rows. -/
def blk (X : XBuf F) (b : ℕ) : Vec F S1024x2048 .f32 := fun y => X (rowX (1024 * b + (y 0).val) (y 1))

/-- The read of a landed slot is the block. -/
theorem read_slot (X : XBuf F) (s b : ℕ) (off : Fin 2 → ℕ) (e : off = ![1024 * s, 0])
    (h : ∀ a, off a + S1024x2048.size a ≤ S6144x2048.size a) :
    (scM.access (Rect.unit (s := S6144x2048) off S1024x2048.size h)).read (Elt F) (landed X s b) = blk X b := by
  subst e
  funext y
  rw [View.read_apply, cast_eq]
  unfold landed blk
  congr 1
  funext a
  fin_cases a
  · apply Fin.ext
    show (1024 * b + ((1024 * s + 1 * (y 0).val) - 1024 * s)) % 16384 = (1024 * b + (y 0).val) % 16384
    congr 1; omega
  · apply Fin.ext
    show 0 + 1 * (y 1).val = (y 1).val
    omega

/-- The rectangle a slot is read by lies in its rows. -/
theorem set_slot (s : ℕ) (off : Fin 2 → ℕ) (e : off = ![1024 * s, 0])
    (h : ∀ a, off a + S1024x2048.size a ≤ S6144x2048.size a) :
    (scM.access (Rect.unit (s := S6144x2048) off S1024x2048.size h)).set ⊆ slotRows s := by
  subst e
  show (View.slice (View.whole cc0_scratch0) _).set ⊆ _
  rw [View.set_slice_whole]
  intro i hi
  rw [mem_slotRows]
  exact Rect.mem_set_unit.mp hi 0

/-! ## The ring -/

/-- The block slot `s` is to hold next, before trip `k`. -/
def bOf (k s : ℕ) : ℕ := k + (s + 96 - k) % 6

theorem bOf_self (k : ℕ) (hk : k < 16) : bOf k (k % 6) = k := by unfold bOf; omega
theorem bOf_next (k : ℕ) (hk : k < 16) : bOf (k + 1) (k % 6) = k + 6 := by unfold bOf; omega
theorem bOf_other (k s : ℕ) (hk : k < 16) (hs : s < 6) (h : s ≠ k % 6) : bOf (k + 1) s = bOf k s := by unfold bOf; omega
theorem bOf_zero (s : ℕ) (hs : s < 6) : bOf 0 s = s := by unfold bOf; omega
theorem bOf_last (s : ℕ) : ¬ bOf 16 s < 16 := by unfold bOf; omega

/-- Slot `s` before trip `k`: its next block in flight, or not in use once no block is left for it. -/
def slotAt (c : Dev nD) (X : XBuf F) (k : ℕ) (s : Fin 6) : sProp 𝕄 :=
  if bOf k s.val < 16 then slotFly c X s (bOf k s.val) else slotFree c X s
/-- The six slots before trip `k`. -/
def ring (c : Dev nD) (X : XBuf F) (k : ℕ) : sProp 𝕄 := bigSep Finset.univ (slotAt c X k)

/-- Trip `k` takes its slot's flights and gives the slot back as the next trip expects it. -/
theorem ring_turn (c : Dev nD) (X : XBuf F) (k : ℕ) (hk : k < 16) (s : Fin 6) (hs : s.val = k % 6) :
    ring c X k ⊢ iprop(slotFly c X s k ∗ ((if k + 6 < 16 then slotFly c X s (k + 6) else slotFree c X s) -∗ ring c X (k + 1))) := by
  unfold ring
  refine (bigSep_univ_update (Ψ := slotAt c X (k + 1)) s fun j hj => ?_).trans (Entails.of_eq ?_)
  · unfold slotAt
    rw [bOf_other k j.val hk j.isLt fun e => hj (Fin.ext (e.trans hs.symm))]
  · unfold slotAt
    rw [hs, bOf_self k hk, bOf_next k hk, if_pos hk]

/-- Before the first trip each slot has its own block in flight. -/
theorem ring_zero (c : Dev nD) (X : XBuf F) : ring c X 0 = bigSep Finset.univ fun s : Fin 6 => slotFly c X s s.val := by
  unfold ring slotAt
  refine bigSep_congr fun s _ => ?_
  rw [bOf_zero _ s.isLt, if_pos (by have := s.isLt; omega)]

/-- After the last trip no slot is in use. -/
theorem ring_last (c : Dev nD) (X : XBuf F) : ring c X 16 = bigSep Finset.univ fun s : Fin 6 => slotFree c X s := by
  unfold ring slotAt
  exact bigSep_congr fun s _ => if_neg (bOf_last _)

end Cert.KernelIdeal.Hand

end
-- ==== Proof.Ideal.Trip.lean ====
/-
  One trip of the router kernel's loop: the four transfers of a block are waited for, the block is read, its three results
  are stored, and the slot's next block is sent for.
-/
module

public import proofs.«01_k».proof.Proof.Ideal.Slot
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## What the loop stores -/

/-- The weights of a block, one column per token. -/
def P3 (v0 : Vec F S16x2048 .f32) (v3 : FVec F S16x1 .f32) (xb : Vec F S1024x2048 .f32) : FVec F S1x16x1024 .f32 :=
  k0_pay10 (k0_pay3 v0 v3 xb)
/-- The two largest weights of each token of a block. -/
def P4 (v0 : Vec F S16x2048 .f32) (v3 : FVec F S16x1 .f32) (xb : Vec F S1024x2048 .f32) : FVec F S1x2x1024 .f32 :=
  k0_pay1 (k0_pay11 (k0_pay4 v0 v3 xb) (k0_pay7 v0 v3 xb))
/-- Where they stand. -/
def P5 (v0 : Vec F S16x2048 .f32) (v3 : FVec F S16x1 .f32) (xb : Vec F S1024x2048 .f32) : IVec S1x2x1024 32 :=
  k0_pay2 (k0_pay5 v0 v3 xb) (k0_pay9 (iota .tc S16x1024 32 [0] iota_S16x1024_d0_w32) (k0_pay6 v0 v3 xb) (k0_pay8 v0 v3 xb))

/-- The block an element of the weights' array belongs to. -/
def chA (y : S4x16x4096.Idx) : ℕ := 4 * (y 0).val + (y 2).val / 1024
/-- Its place in the block's results. -/
def loA (y : S4x16x4096.Idx) : S1x16x1024.Idx := fun a =>
  match a with
  | 0 => (0 : Fin 1)
  | 1 => (y 1 : Fin 16)
  | 2 => (⟨(y 2).val % 1024, Nat.mod_lt _ (by decide)⟩ : Fin 1024)
/-- The block an element of the two short arrays belongs to. -/
def chB (y : S4x2x4096.Idx) : ℕ := 4 * (y 0).val + (y 2).val / 1024
/-- Its place in the block's results. -/
def loB (y : S4x2x4096.Idx) : S1x2x1024.Idx := fun a =>
  match a with
  | 0 => (0 : Fin 1)
  | 1 => (y 1 : Fin 2)
  | 2 => (⟨(y 2).val % 1024, Nat.mod_lt _ (by decide)⟩ : Fin 1024)

/-- The weights' array at the end. -/
def G3 (v0 : Vec F S16x2048 .f32) (v3 : FVec F S16x1 .f32) (X : XBuf F) : S4x16x4096.Idx → Elt F .f32 := fun y =>
  P3 v0 v3 (blk X (chA y)) (loA y)
/-- The array of largest weights at the end. -/
def G4 (v0 : Vec F S16x2048 .f32) (v3 : FVec F S16x1 .f32) (X : XBuf F) : S4x2x4096.Idx → Elt F .f32 := fun y =>
  P4 v0 v3 (blk X (chB y)) (loB y)
/-- The array of their places at the end. -/
def G5 (v0 : Vec F S16x2048 .f32) (v3 : FVec F S16x1 .f32) (X : XBuf F) : S4x2x4096.Idx → Elt F .i32 := fun y =>
  P5 v0 v3 (blk X (chB y)) (loB y)

/-! ## The offsets -/

theorem trips_lt (k : Fin k0_t1_loop.trips) : k.val < 16 := lt_of_lt_of_eq k.isLt (by decide +kernel)
theorem off5_eq : ∀ k : Fin k0_t1_loop.trips, k0_off5 k = ![k.val / 4, 0, 1024 * (k.val % 4)] := by decide +kernel
theorem off6_eq : ∀ k : Fin k0_t1_loop.trips, k0_off6 k = ![k.val / 4, 0, 1024 * (k.val % 4)] := by decide +kernel
theorem cond1_iff : ∀ k : Fin k0_t1_loop.trips, k0_cond1 k = 1#1 ↔ k.val + 6 < 16 := by decide +kernel

/-- Where a trip's issues write, and where they read. -/
theorem off8_eq (k : Fin k0_t1_loop.trips) (s : Fin 6) (hs : s.val = k.val % 6) (j : Fin 4) :
    k0_off8 k (BitVec.ofNat 32 (256 * j.val)) = ![256 * (4 * s.val + j.val), 0] :=
  (k0_off8_eq k j).trans (congrArg (fun n => ![n, 0]) (by omega))
theorem off9_eq (k : Fin k0_t1_loop.trips) (j : Fin 4) :
    k0_off9 k (BitVec.ofNat 32 (256 * j.val)) = ![256 * (4 * (k.val + 6) + j.val), 0] :=
  (k0_off9_eq k j).trans (congrArg (fun n => ![n, 0]) (by omega))

/-! ## An output up to a trip -/

/-- The output `M` before trip `k`: every element of an earlier block holds what it holds at the end. -/
def outAt (c : Dev nD) {s : Shape} {e : EltTy} (M : Memref sig .tc .vmem s e) (G : s.Idx → Elt F e) (ch : s.Idx → ℕ) (k : ℕ) : sProp 𝕄 :=
  iprop(∃ f : Buf (Elt F) (M.view.loc (c : Thread nD τ)), ⌜∀ y, ch y < k → M.view.read (Elt F) f y = G y⌝ ∗ M.view.loc (c : Thread nD τ) ↦[M.view.set]{fullShare} f)

/-- The store of one block leaves the output right for one more block. -/
theorem out_step {s : Shape} {e : EltTy} (M : Memref sig .tc .vmem s e) (G : s.Idx → Elt F e) (ch : s.Idx → ℕ) (k : ℕ)
    (r : Rect s) (w : r.shape.Idx → Elt F e) (f : M.view.ty.Contents (Elt F))
    (hf : ∀ y, ch y < k → M.view.read (Elt F) f y = G y) (hr : ∀ y, ch y = k → y ∈ r.set)
    (hr' : ∀ x, ch (r.emb x) = k) (hw : ∀ x, w x = G (r.emb x)) :
    ∀ y, ch y < k + 1 → M.view.read (Elt F) ((M.access r).write (Elt F) f w Finset.univ) y = G y := by
  intro y hy
  have e1 : (M.access r).write (Elt F) f w Finset.univ = M.view.writes (Elt F) f [⟨r, w⟩] := rfl
  rw [e1]
  by_cases h : y ∈ r.set
  · obtain ⟨x, rfl⟩ : ∃ x, r.emb x = y := by
      rw [← Rect.map_emb_univ, Finset.mem_map] at h
      obtain ⟨x, -, hx⟩ := h
      exact ⟨x, hx⟩
    rw [View.read_writes_cons_emb]
    exact hw x
  · rw [View.read_writes_cons_miss _ _ _ _ _ h, View.writes_nil]
    exact hf y (by have : ch y ≠ k := fun e => h (hr y e)
                   omega)

/-- A block's store: the buffer is read, and the read is not used; then the block's result is written. -/
theorem put (c : Dev nD) {s : Shape} {e : EltTy} (M : Memref sig .tc .vmem s e) (G : s.Idx → Elt F e) (ch : s.Idx → ℕ) (k : ℕ)
    (r : Rect s) (w : r.shape.Idx → Elt F e) {hl : M.view.LoadsAt r}
    {hx : (M.access r).Stores Finset.univ} {hm : Finset.univ = Finset.univ ∨ ∀ a, r.stride a = 1}
    (hr : ∀ y, ch y = k → y ∈ r.set) (hr' : ∀ x, ch (r.emb x) = k) (hw : ∀ x, w x = G (r.emb x))
    {Q : PUnit → sProp 𝕄} :
    outAt c M G ch k ⊢ iprop((outAt c M G ch (k + 1) -∗ Q ⟨⟩)
      -∗ wpK c (Prog.lift (.load M r hl)) (fun _ => wpK c (Prog.lift (.store M r w Finset.univ hx hm)) Q)) := by
  unfold outAt
  iintro ⟨%f, %hf, H⟩ Hk
  iapply (wp_load_rect Variants.none (c : Thread nD τ) none Set.univ (m := M) (r := r) (hl := hl) (k := Prog.ret)
    (M.view.set_slice_subset r)) $$ H
  iintro H
  rw [wp_ret]
  imodintro
  iapply (wp_store Variants.none (c : Thread nD τ) none Set.univ (m := M) (r := r) (w := w) (hx := hx) (hm := hm) (k := Prog.ret)
    (M.setOn_access_subset r Finset.univ)) $$ H
  iintro H
  rw [wp_ret]
  imodintro
  iapply Hk
  iexists _
  isplitr
  · ipureintro; exact out_step M G ch k r w f hf hr hr' hw
  · iexact H

/-- The rectangle of block `k` in the weights' array holds its elements, -/
theorem rectA (k : ℕ) (hk : k < 16) (off : Fin 3 → ℕ) (e : off = ![k / 4, 0, 1024 * (k % 4)])
    (h : ∀ a, off a + S1x16x1024.size a ≤ S4x16x4096.size a) :
    (∀ y, chA y = k → y ∈ (Rect.unit (s := S4x16x4096) off S1x16x1024.size h).set)
    ∧ (∀ x, chA ((Rect.unit (s := S4x16x4096) off S1x16x1024.size h).emb x) = k)
    ∧ (∀ x, loA ((Rect.unit (s := S4x16x4096) off S1x16x1024.size h).emb x) = x) := by
  subst e
  refine ⟨fun y hy => Rect.mem_set_unit.mpr fun a => ?_, fun x => ?_, fun x => ?_⟩
  · unfold chA at hy
    have h2 : (y 2).val < 4096 := (y 2).isLt
    have h1 : (y 1).val < 16 := (y 1).isLt
    fin_cases a
    · show k / 4 ≤ (y 0).val ∧ (y 0).val < k / 4 + 1; omega
    · show 0 ≤ (y 1).val ∧ (y 1).val < 0 + 16; omega
    · show 1024 * (k % 4) ≤ (y 2).val ∧ (y 2).val < 1024 * (k % 4) + 1024; omega
  · have h0 : (x 0).val < 1 := (x 0).isLt
    have h2 : (x 2).val < 1024 := (x 2).isLt
    show 4 * (k / 4 + 1 * (x 0).val) + (1024 * (k % 4) + 1 * (x 2).val) / 1024 = k
    omega
  · have h0 : (x 0).val < 1 := (x 0).isLt
    have h2 : (x 2).val < 1024 := (x 2).isLt
    funext a
    fin_cases a
    · apply Fin.ext; show 0 = (x 0).val; omega
    · apply Fin.ext; show 0 + 1 * (x 1).val = (x 1).val; omega
    · apply Fin.ext; show (1024 * (k % 4) + 1 * (x 2).val) % 1024 = (x 2).val; omega

/-- and the one in the short arrays. -/
theorem rectB (k : ℕ) (hk : k < 16) (off : Fin 3 → ℕ) (e : off = ![k / 4, 0, 1024 * (k % 4)])
    (h : ∀ a, off a + S1x2x1024.size a ≤ S4x2x4096.size a) :
    (∀ y, chB y = k → y ∈ (Rect.unit (s := S4x2x4096) off S1x2x1024.size h).set)
    ∧ (∀ x, chB ((Rect.unit (s := S4x2x4096) off S1x2x1024.size h).emb x) = k)
    ∧ (∀ x, loB ((Rect.unit (s := S4x2x4096) off S1x2x1024.size h).emb x) = x) := by
  subst e
  refine ⟨fun y hy => Rect.mem_set_unit.mpr fun a => ?_, fun x => ?_, fun x => ?_⟩
  · unfold chB at hy
    have h2 : (y 2).val < 4096 := (y 2).isLt
    have h1 : (y 1).val < 2 := (y 1).isLt
    fin_cases a
    · show k / 4 ≤ (y 0).val ∧ (y 0).val < k / 4 + 1; omega
    · show 0 ≤ (y 1).val ∧ (y 1).val < 0 + 2; omega
    · show 1024 * (k % 4) ≤ (y 2).val ∧ (y 2).val < 1024 * (k % 4) + 1024; omega
  · have h0 : (x 0).val < 1 := (x 0).isLt
    have h2 : (x 2).val < 1024 := (x 2).isLt
    show 4 * (k / 4 + 1 * (x 0).val) + (1024 * (k % 4) + 1 * (x 2).val) / 1024 = k
    omega
  · have h0 : (x 0).val < 1 := (x 0).isLt
    have h2 : (x 2).val < 1024 := (x 2).isLt
    funext a
    fin_cases a
    · apply Fin.ext; show 0 = (x 0).val; omega
    · apply Fin.ext; show 0 + 1 * (x 1).val = (x 1).val; omega
    · apply Fin.ext; show (1024 * (k % 4) + 1 * (x 2).val) % 1024 = (x 2).val; omega

/-! ## The trip -/

section Trip

variable (arg1 : Memref sig .tc .vmem S16x2048 .f32) (harg1 : arg1.IsWhole) (arg2 : Memref sig .tc .vmem S1x16 .f32) (harg2 : arg2.IsWhole)
  (arg3 : Memref sig .tc .vmem S4x16x4096 .f32) (harg3 : arg3.IsWhole) (arg4 : Memref sig .tc .vmem S4x2x4096 .f32) (harg4 : arg4.IsWhole)
  (arg5 : Memref sig .tc .vmem S4x2x4096 .i32) (harg5 : arg5.IsWhole)

/-- What the loop holds before trip `k`. -/
def inv (c : Dev nD) (X : XBuf F) (v0 : Vec F S16x2048 .f32) (v3 : FVec F S16x1 .f32) (k : ℕ) : sProp 𝕄 :=
  iprop(ring c X k ∗ (∃ W, owes (c : Thread nD τ) 0 W)
    ∗ outAt c arg3 (G3 v0 v3 X) chA k ∗ outAt c arg4 (G4 v0 v3 X) chB k ∗ outAt c arg5 (G5 v0 v3 X) chB k)

/-- The first three waits of a trip. -/
theorem part2 (c : Dev nD) (X : XBuf F) (k : Fin k0_t1_loop.trips) (s : Fin 6) (hs : s.val = k.val % 6) (b q0 q1 q2 : ℕ)
    {Q : (Σ' (_ : BitVec 32), BitVec 32) → sProp 𝕄} :
    iprop((pfly c X (pc s 0) s.val b q0 ∗ pfly c X (pc s 1) s.val b q1 ∗ pfly c X (pc s 2) s.val b q2) ∗ ∃ W, owes (c : Thread nD τ) 0 W)
      ⊢ iprop((∀ r, (iprop((pgot c X (pc s 0) s.val b ∗ pgot c X (pc s 1) s.val b ∗ pgot c X (pc s 2) s.val b) ∗ ∃ W, owes (c : Thread nD τ) 0 W)) -∗ Q r)
        -∗ wpK c (k0_part2 xM (Memref.isWhole_whole _) arg1 harg1 arg2 harg2 arg3 harg3 arg4 harg4 arg5 harg5 scM (Memref.isWhole_whole _) cc0_scratch1 0#32 1#32 k) Q) := by
  rw [k0_part2_eq_skeleton]
  unfold k0_part2_skel wpK
  simp only [wp_bind]
  iintro ⟨⟨H0, H1, H2⟩, HW⟩ Hk
  iapply (awaitL c X (pc s 0) s.val b 0 q0 rfl (by rw [hs]; exact k0_off1_eq k 0) (k0_off1_inb k 0) (k0_off2_inb k 0) (k0_off3_inb k 0)) $$ [H0 HW]
  · isplitl [H0]; · iexact H0
    iexact HW
  iintro ⟨H0, HW⟩
  iapply (awaitL c X (pc s 1) s.val b 1 q1 rfl (by rw [hs]; exact k0_off1_eq k 1) (k0_off1_inb k 1) (k0_off2_inb k 1) (k0_off3_inb k 1)) $$ [H1 HW]
  · isplitl [H1]; · iexact H1
    iexact HW
  iintro ⟨H1, HW⟩
  iapply (awaitL c X (pc s 2) s.val b 2 q2 rfl (by rw [hs]; exact k0_off1_eq k 2) (k0_off1_inb k 2) (k0_off2_inb k 2) (k0_off3_inb k 2)) $$ [H2 HW]
  · isplitl [H2]; · iexact H2
    iexact HW
  iintro ⟨H2, HW⟩
  rw [wp_pure]
  imodintro
  iapply Hk
  isplitr [HW]
  · isplitl [H0]; · iexact H0
    isplitl [H1]; · iexact H1
    iexact H2
  · iexact HW

/-- The last wait of a trip and the read of its block. -/
theorem part3 (c : Dev nD) (X : XBuf F) (v0 : Vec F S16x2048 .f32) (v3 : FVec F S16x1 .f32) (k : Fin k0_t1_loop.trips) (s : Fin 6)
    (hs : s.val = k.val % 6) (b q3 : ℕ) (arg8 v101 : BitVec 32)
    {Q : (Σ' (_ : FVec F S16x1024 .f32) (_ : IVec S16x1024 32) (_ : FVec F S1x1024 .f32) (_ : IVec S1x1024 32) (_ : FVec F S16x1024 .f32)
      (_ : FVec F S1x1024 .f32), FVec F S16x1024 .f32) → sProp 𝕄} :
    iprop((pgot c X (pc s 0) s.val b ∗ pgot c X (pc s 1) s.val b ∗ pgot c X (pc s 2) s.val b) ∗ pfly c X (pc s 3) s.val b q3
        ∗ ∃ W, owes (c : Thread nD τ) 0 W)
      ⊢ iprop((iprop(slotGot c X s b ∗ ∃ W, owes (c : Thread nD τ) 0 W)
          -∗ Q ⟨k0_pay3 v0 v3 (blk X b), iota .tc S16x1024 32 [0] iota_S16x1024_d0_w32, k0_pay4 v0 v3 (blk X b), k0_pay5 v0 v3 (blk X b),
            k0_pay6 v0 v3 (blk X b), k0_pay7 v0 v3 (blk X b), k0_pay8 v0 v3 (blk X b)⟩)
        -∗ wpK c (k0_part3 xM (Memref.isWhole_whole _) arg1 harg1 arg2 harg2 arg3 harg3 arg4 harg4 arg5 harg5 scM (Memref.isWhole_whole _)
          cc0_scratch1 v0 v3 k arg8 v101) Q) := by
  rw [k0_part3_eq_skeleton]
  unfold k0_part3_skel wpK
  simp only [wp_bind]
  iintro ⟨⟨H0, H1, H2⟩, H3, HW⟩ Hk
  iapply (awaitL c X (pc s 3) s.val b 3 q3 rfl (by rw [hs]; exact k0_off1_eq k 3) (k0_off1_inb k 3) (k0_off2_inb k 3) (k0_off3_inb k 3)) $$ [H3 HW]
  · isplitl [H3]; · iexact H3
    iexact HW
  iintro ⟨H3, HW⟩
  have e4 : k0_off4 k = ![1024 * s.val, 0] := by rw [hs]; exact k0_off4_eq k
  ihave Hs := (show iprop(pgot c X (pc s 0) s.val b ∗ pgot c X (pc s 1) s.val b ∗ pgot c X (pc s 2) s.val b ∗ pgot c X (pc s 3) s.val b) ⊢ slotGot c X s b
      from .rfl) $$ [H0 H1 H2 H3]
  · isplitl [H0]; · iexact H0
    isplitl [H1]; · iexact H1
    isplitl [H2]; · iexact H2
    iexact H3
  ihave Hs := (slotGot_rows c X s b) $$ Hs
  icases Hs with ⟨Hr, Hback⟩
  iapply (wp_load_rect Variants.none (c : Thread nD τ) none Set.univ (m := scM)
    (r := Rect.unit (s := S6144x2048) (k0_off4 k) S1024x2048.size (k0_off4_inb k)) (k := Prog.ret) (set_slot s.val (k0_off4 k) e4 (k0_off4_inb k))) $$ Hr
  iintro Hr
  rw [wp_ret]
  imodintro
  rw [read_slot X s.val b (k0_off4 k) e4 (k0_off4_inb k)]
  rw [wp_pure]
  imodintro
  iapply Hk
  isplitr [HW]
  · iapply Hback; iexact Hr
  · iexact HW

/-- The store of a block's weights. -/
theorem part4 (c : Dev nD) (X : XBuf F) (v0 : Vec F S16x2048 .f32) (v3 : FVec F S16x1 .f32) (k : Fin k0_t1_loop.trips) (arg8 : BitVec 32)
    (v157 : IVec S16x1024 32) (v159 : FVec F S1x1024 .f32) (v169 : FVec F S16x1024 .f32) (v171 : FVec F S1x1024 .f32) (v172 : FVec F S16x1024 .f32)
    {Q : (Σ' (_ : IVec S1x1024 32) (_ : BitVec 32) (_ : BitVec 32), FVec F S2x1024 .f32) → sProp 𝕄} :
    outAt c arg3 (G3 v0 v3 X) chA k.val
      ⊢ iprop((∀ a b, outAt c arg3 (G3 v0 v3 X) chA (k.val + 1) -∗ Q ⟨k0_pay9 v157 v169 v172, a, b, k0_pay11 v159 v171⟩)
        -∗ wpK c (k0_part4 xM (Memref.isWhole_whole _) arg1 harg1 arg2 harg2 arg3 harg3 arg4 harg4 arg5 harg5 scM (Memref.isWhole_whole _)
          cc0_scratch1 k arg8 (k0_pay3 v0 v3 (blk X k.val)) v157 v159 v169 v171 v172) Q) := by
  rw [k0_part4_eq_skeleton]
  unfold k0_part4_skel wpK
  simp only [wp_bind]
  obtain ⟨h1, h2, h3⟩ := rectA k.val (trips_lt k) (k0_off5 k) (off5_eq k) (k0_off5_inb k)
  iintro H Hk
  iapply (put c arg3 (G3 v0 v3 X) chA k.val (Rect.unit (s := S4x16x4096) (k0_off5 k) S1x16x1024.size (k0_off5_inb k))
    (k0_pay10 (k0_pay3 v0 v3 (blk X k.val))) h1 h2 (fun x => by unfold G3 P3; rw [h2 x, h3 x])) $$ H
  iintro H
  rw [wp_pure]
  imodintro
  iapply Hk; iexact H

/-- The first two issues of a trip. -/
theorem part1 (c : Dev nD) (X : XBuf F) (k : Fin k0_t1_loop.trips) (s : Fin 6) (hs : s.val = k.val % 6) (h : k0_cond1 k = 1#1) (arg8 v101 : BitVec 32)
    {Q : PUnit → sProp 𝕄} :
    iprop(pfree c X (pc s 0) ∗ pfree c X (pc s 1))
      ⊢ iprop((iprop(pfly c X (pc s 0) s.val (k.val + 6) (4 * (k.val + 6) + 0) ∗ pfly c X (pc s 1) s.val (k.val + 6) (4 * (k.val + 6) + 1)) -∗ Q ⟨⟩)
        -∗ wpK c (k0_part1 xM (Memref.isWhole_whole _) arg1 harg1 arg2 harg2 arg3 harg3 arg4 harg4 arg5 harg5 scM (Memref.isWhole_whole _)
          cc0_scratch1 k arg8 v101 h) Q) := by
  have hk : k.val + 6 < 16 := (cond1_iff k).1 h
  rw [k0_part1_eq_skeleton]
  unfold k0_part1_skel wpK
  simp only [wp_bind]
  iintro ⟨H0, H1⟩ Hk
  iapply (issueL c X (pc s 0) s.val (k.val + 6) 0 rfl (by decide) hk (by rw [hs]; exact k0_off7_eq k 0) (off8_eq k s hs 0) (off9_eq k 0)
    (k0_off7_inb k h 0) (k0_off8_inb k h 0) (k0_off9_inb k h 0)) $$ H0
  iintro H0
  iapply (issueL c X (pc s 1) s.val (k.val + 6) 1 rfl (by decide) hk (by rw [hs]; exact k0_off7_eq k 1) (off8_eq k s hs 1) (off9_eq k 1)
    (k0_off7_inb k h 1) (k0_off8_inb k h 1) (k0_off9_inb k h 1)) $$ H1
  iintro H1
  rw [wp_pure]
  imodintro
  iapply Hk
  isplitl [H0]; · iexact H0
  iexact H1

/-- ONE TRIP takes what the loop holds to what it holds before the next. -/
theorem trip (c : Dev nD) (X : XBuf F) (v0 : Vec F S16x2048 .f32) (v3 : FVec F S16x1 .f32) (k : Fin k0_t1_loop.trips) :
    inv arg3 arg4 arg5 c X v0 v3 k.val
      ⊢ wpK c (k0_t1_body xM (Memref.isWhole_whole _) arg1 harg1 arg2 harg2 arg3 harg3 arg4 harg4 arg5 harg5 scM (Memref.isWhole_whole _)
          cc0_scratch1 v0 v3 k ()) (fun _ => inv arg3 arg4 arg5 c X v0 v3 (k.val + 1)) := by
  have hk := trips_lt k
  obtain ⟨s, hs⟩ : ∃ s : Fin 6, s.val = k.val % 6 := ⟨⟨k.val % 6, Nat.mod_lt _ (by decide)⟩, rfl⟩
  obtain ⟨h1, h2, h3⟩ := rectB k.val hk (k0_off6 k) (off6_eq k) (k0_off6_inb k)
  unfold k0_t1_body inv wpK
  simp only [wp_bind]
  iintro ⟨HR, HW, H3, H4, H5⟩
  ihave HR := (ring_turn c X k.val hk s hs) $$ HR
  icases HR with ⟨Hs, HR⟩
  unfold slotFly
  icases Hs with ⟨Hs0, Hs1, Hs2, Hs3⟩
  iapply (part2 arg1 harg1 arg2 harg2 arg3 harg3 arg4 harg4 arg5 harg5 c X k s hs k.val _ _ _) $$ [Hs0 Hs1 Hs2 HW]
  · isplitr [HW]
    · isplitl [Hs0]; · iexact Hs0
      isplitl [Hs1]; · iexact Hs1
      iexact Hs2
    · iexact HW
  iintro %r2 ⟨Hg, HW⟩
  iapply (part3 arg1 harg1 arg2 harg2 arg3 harg3 arg4 harg4 arg5 harg5 c X v0 v3 k s hs k.val _ _ _) $$ [Hg Hs3 HW]
  · isplitl [Hg]; · iexact Hg
    isplitl [Hs3]; · iexact Hs3
    iexact HW
  iintro ⟨Hg, HW⟩
  dsimp only
  iapply (part4 arg1 harg1 arg2 harg2 arg3 harg3 arg4 harg4 arg5 harg5 c X v0 v3 k _ _ _ _ _ _) $$ H3
  iintro %_ %_ H3
  dsimp only
  iapply (put c arg4 (G4 v0 v3 X) chB k.val (Rect.unit (s := S4x2x4096) (k0_off6 k) S1x2x1024.size (k0_off6_inb k))
    (k0_pay1 (k0_pay11 (k0_pay4 v0 v3 (blk X k.val)) (k0_pay7 v0 v3 (blk X k.val)))) h1 h2 (fun x => by unfold G4 P4; rw [h2 x, h3 x])) $$ H4
  iintro H4
  iapply (put c arg5 (G5 v0 v3 X) chB k.val (Rect.unit (s := S4x2x4096) (k0_off6 k) S1x2x1024.size (k0_off6_inb k))
    (k0_pay2 (k0_pay5 v0 v3 (blk X k.val)) (k0_pay9 (iota .tc S16x1024 32 [0] iota_S16x1024_d0_w32) (k0_pay6 v0 v3 (blk X k.val))
      (k0_pay8 v0 v3 (blk X k.val)))) h1 h2 (fun x => by unfold G5 P5; rw [h2 x, h3 x])) $$ H5
  iintro H5
  ihave Hg := (slotGot_free c X s k.val) $$ Hg
  by_cases h : k0_cond1 k = 1#1
  · have hk6 : k.val + 6 < 16 := (cond1_iff k).1 h
    rw [dif_pos h, if_pos hk6]
    simp only [wp_bind]
    unfold slotFree
    icases Hg with ⟨Hs0, Hs1, Hs2, Hs3⟩
    iapply (part1 arg1 harg1 arg2 harg2 arg3 harg3 arg4 harg4 arg5 harg5 c X k s hs h _ _) $$ [Hs0 Hs1]
    · isplitl [Hs0]; · iexact Hs0
      iexact Hs1
    iintro ⟨Hs0, Hs1⟩
    iapply (issueL c X (pc s 2) s.val (k.val + 6) 2 rfl (by decide) hk6 (by rw [hs]; exact k0_off7_eq k 2) (off8_eq k s hs 2) (off9_eq k 2)
      (k0_off7_inb k h 2) (k0_off8_inb k h 2) (k0_off9_inb k h 2)) $$ Hs2
    iintro Hs2
    iapply (issueL c X (pc s 3) s.val (k.val + 6) 3 rfl (by decide) hk6 (by rw [hs]; exact k0_off7_eq k 3) (off8_eq k s hs 3) (off9_eq k 3)
      (k0_off7_inb k h 3) (k0_off8_inb k h 3) (k0_off9_inb k h 3)) $$ Hs3
    iintro Hs3
    rw [wp_pure]
    imodintro
    isplitl [HR Hs0 Hs1 Hs2 Hs3]
    · iapply HR
      isplitl [Hs0]; · iexact Hs0
      isplitl [Hs1]; · iexact Hs1
      isplitl [Hs2]; · iexact Hs2
      iexact Hs3
    isplitl [HW]; · iexact HW
    isplitl [H3]; · iexact H3
    isplitl [H4]; · iexact H4
    iexact H5
  · have hk6 : ¬ k.val + 6 < 16 := fun e => h ((cond1_iff k).2 e)
    rw [dif_neg h, if_neg hk6]
    rw [wp_pure]
    imodintro
    isplitl [HR Hg]
    · iapply HR; iexact Hg
    isplitl [HW]; · iexact HW
    isplitl [H3]; · iexact H3
    isplitl [H4]; · iexact H4
    iexact H5

end Trip

end Cert.KernelIdeal.Hand

end
-- ==== Proof.Ideal.Body.lean ====
/-
  The whole body of the router kernel: the weights and the bias are read, the twenty-four first transfers are issued, the
  loop runs, and the three outputs hold their results, with every piece of the streaming buffer back.
-/
module

public import proofs.«01_k».proof.Proof.Ideal.Trip
public import Idealize.ShloMosaic.Lib.Ring.AtN

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The pieces by slots -/

/-- The twenty-four pieces are the four of each of the six slots. -/
theorem pieces_slots (Φ : Fin 24 → sProp 𝕄) :
    bigSep Finset.univ Φ = bigSep Finset.univ fun s : Fin 6 => iprop(Φ (pc s 0) ∗ Φ (pc s 1) ∗ Φ (pc s 2) ∗ Φ (pc s 3)) := by
  rw [bigSep_univ_equiv (finProdFinEquiv (m := 6) (n := 4)) Φ, bigSep_univ_prod]
  refine bigSep_congr fun s _ => ?_
  refine (Idealize.ShloMosaic.Ring.bigSep_fin4 _).trans ?_
  have e : ∀ j : Fin 4, finProdFinEquiv (m := 6) (n := 4) (s, j) = pc s j := fun j => Fin.ext (Nat.add_comm _ _)
  simp only [e]

/-! ## The first transfers -/

/-- Piece `p` of the streaming buffer with piece `p` of the token array in flight to it. -/
def pfirst (c : Dev nD) (X : XBuf F) (p : Fin 24) : sProp 𝕄 := pfly c X p (p.val / 4) (p.val / 4) (4 * (p.val / 4) + p.val % 4)

/-- The first `n` pieces in flight, the others not in use. -/
def sent (c : Dev nD) (X : XBuf F) (n : ℕ) : sProp 𝕄 :=
  bigSep Finset.univ fun p : Fin 24 => if p.val < n then pfirst c X p else pfree c X p

/-- Piece `n` taken out to be issued, the rest waiting for it. -/
theorem sent_turn (c : Dev nD) (X : XBuf F) (n : ℕ) (hn : n < 24) :
    sent c X n ⊢ iprop(pfree c X ⟨n, hn⟩ ∗ (pfirst c X ⟨n, hn⟩ -∗ sent c X (n + 1))) := by
  refine (bigSep_univ_update (Ψ := fun p : Fin 24 => if p.val < n + 1 then pfirst c X p else pfree c X p) ⟨n, hn⟩ fun j hj => ?_).trans
    (Entails.of_eq ?_)
  · have : j.val ≠ n := fun e => hj (Fin.ext e)
    show (if j.val < n + 1 then _ else _) = if j.val < n then _ else _
    by_cases h : j.val < n
    · rw [if_pos h, if_pos (by omega)]
    · rw [if_neg h, if_neg (by omega)]
  · show iprop((if n < n then _ else _) ∗ ((if n < n + 1 then _ else _) -∗ _)) = _
    rw [if_neg (lt_irrefl n), if_pos (Nat.lt_succ_self n)]
    rfl

/-- One more transfer issued. -/
theorem first_issue (c : Dev nD) (X : XBuf F) (n : ℕ) (hn : n < 24)
    {offC : Fin 1 → ℕ} {offD offS : Fin 2 → ℕ} (eC : offC = ![n]) (eD : offD = ![256 * n, 0]) (eS : offS = ![256 * n, 0])
    {hC : ∀ a, offC a + S1.size a ≤ S24.size a} {hD : ∀ a, offD a + S256x2048.size a ≤ S6144x2048.size a}
    {hS : ∀ a, offS a + S256x2048.size a ≤ S16384x2048.size a}
    {hsrc : (xM.slice (Rect.unit (s := S16384x2048) offS S256x2048.size hS) (fun _ => rfl)).view.WordExact}
    {hdst : (scM.slice (Rect.unit (s := S6144x2048) offD S256x2048.size hD) (fun _ => rfl)).view.WordExact}
    {hsem : (DmaTarget.here (scM.slice (Rect.unit (s := S6144x2048) offD S256x2048.size hD) (fun _ => rfl))
        : DmaTarget nD τ sig .tc .vmem S256x2048 .f32).Typed .hbm
      (SemLoc.dma ((cc0_scratch1.slice (Rect.unit (s := S24) offC S1.size hC)).squeeze S_ squeezes_S1_S_).sem)}
    {Q : PUnit → sProp 𝕄} :
    sent c X n
      ⊢ iprop((sent c X (n + 1) -∗ Q ⟨⟩)
          -∗ wpK c (Prog.lift (.enqueueDma (xM.slice (Rect.unit (s := S16384x2048) offS S256x2048.size hS) (fun _ => rfl))
                (.here (scM.slice (Rect.unit (s := S6144x2048) offD S256x2048.size hD) (fun _ => rfl)))
                (SemLoc.dma ((cc0_scratch1.slice (Rect.unit (s := S24) offC S1.size hC)).squeeze S_ squeezes_S1_S_).sem) hsrc hdst hsem)) Q) := by
  have hd : 4 * (n / 4) + n % 4 = n := by omega
  iintro H Hk
  ihave H := (sent_turn c X n hn) $$ H
  icases H with ⟨Hp, H⟩
  iapply (issueL c X ⟨n, hn⟩ (n / 4) (n / 4) (n % 4) hd.symm (Nat.mod_lt _ (by decide)) (by omega)
    (eC.trans (by rw [hd])) (eD.trans (by rw [hd])) (eS.trans (by rw [hd])) hC hD hS) $$ Hp
  iintro Hp
  iapply Hk
  iapply H
  unfold pfirst
  iexact Hp

/-- No transfer issued. -/
theorem sent_zero (c : Dev nD) (X : XBuf F) : sent c X 0 = bigSep Finset.univ fun p : Fin 24 => pfree c X p := by
  unfold sent
  exact bigSep_congr fun p _ => if_neg (Nat.not_lt_zero _)

/-- All of them issued: the ring before the first trip. -/
theorem sent_all (c : Dev nD) (X : XBuf F) : sent c X 24 = ring c X 0 := by
  unfold sent
  rw [ring_zero, pieces_slots]
  refine bigSep_congr fun s _ => ?_
  have hs := s.isLt
  unfold slotFly
  have e : ∀ j : Fin 4, (if (pc s j).val < 24 then pfirst c X (pc s j) else pfree c X (pc s j))
      = pfly c X (pc s j) s.val s.val (4 * s.val + j.val) := fun j => by
    have hj := j.isLt
    rw [if_pos (pc s j).isLt]
    unfold pfirst
    have e1 : (pc s j).val / 4 = s.val := by show (4 * s.val + j.val) / 4 = s.val; omega
    have e2 : (pc s j).val % 4 = j.val := by show (4 * s.val + j.val) % 4 = j.val; omega
    rw [e1, e2]
  rw [e 0, e 1, e 2, e 3]
  rfl

/-- After the last trip every piece is free. -/
theorem ring_done (c : Dev nD) (X : XBuf F) : ring c X 16 = bigSep Finset.univ fun p : Fin 24 => pfree c X p := by
  rw [ring_last, pieces_slots]
  rfl

/-! ## The outputs at the two ends -/

/-- Before the first trip an output may hold anything, -/
theorem outAt_zero (c : Dev nD) {s : Shape} {e : EltTy} (M : Memref sig .tc .vmem s e) (G : s.Idx → Elt F e) (ch : s.Idx → ℕ) (d : s.Idx → Elt F e) :
    owns (c : Thread nD τ) M fullShare d ⊢ (outAt c M G ch 0 : sProp 𝕄) := by
  unfold owns outAt
  iintro ⟨%f, -, H⟩
  iexists f
  isplitr
  · ipureintro; exact fun y hy => absurd hy (Nat.not_lt_zero _)
  · iexact H

/-- after the last it holds its result. -/
theorem outAt_last (c : Dev nD) {s : Shape} {e : EltTy} (M : Memref sig .tc .vmem s e) (G : s.Idx → Elt F e) (ch : s.Idx → ℕ) (n : ℕ) (h : ∀ y, ch y < n) :
    (outAt c M G ch n : sProp 𝕄) ⊢ owns (c : Thread nD τ) M fullShare G := by
  unfold owns outAt
  iintro ⟨%f, %hf, H⟩
  iexists f
  isplitr
  · ipureintro; exact funext fun y => hf y (h y)
  · iexact H

theorem chA_lt (y : S4x16x4096.Idx) : chA y < 16 := by
  have h0 : (y 0).val < 4 := (y 0).isLt
  have h2 : (y 2).val < 4096 := (y 2).isLt
  unfold chA; omega
theorem chB_lt (y : S4x2x4096.Idx) : chB y < 16 := by
  have h0 : (y 0).val < 4 := (y 0).isLt
  have h2 : (y 2).val < 4096 := (y 2).isLt
  unfold chB; omega

/-! ## The body -/

/-- The loop makes sixteen trips. -/
theorem trips_eq : k0_t1_loop.trips = 16 := by decide +kernel

/-- The load of a whole input. -/
theorem take (c : Dev nD) {s : Shape} {e : EltTy} (M : Memref sig .tc .vmem s e) (d : s.Idx → Elt F e) (off : Fin s.rank → ℕ) (h0 : ∀ a, off a = 0)
    (h : ∀ a, off a + s.size a ≤ s.size a) {hl : M.view.LoadsAt (Rect.unit (s := s) off s.size h).toLoadRect}
    {Q : (s.Idx → Elt F e) → sProp 𝕄} :
    owns (c : Thread nD τ) M fullShare d
      ⊢ iprop((owns (c : Thread nD τ) M fullShare d -∗ Q d)
        -∗ wpK c (Prog.lift (.load M (Rect.unit (s := s) off s.size h).toLoadRect hl)) Q) := by
  unfold owns
  iintro ⟨%f, %hf, H⟩ Hk
  iapply (wp_load_rect Variants.none (c : Thread nD τ) none Set.univ (m := M) (r := Rect.unit (s := s) off s.size h) (hl := hl) (k := Prog.ret)
    (M.view.set_slice_subset _)) $$ H
  iintro H
  rw [wp_ret]
  imodintro
  have e1 : (M.access (Rect.unit (s := s) off s.size h)).read (Elt F) f = d := by
    rw [← hf]
    funext y
    have e2 : (Rect.unit (s := s) off s.size h).emb y = y := funext fun a => Fin.ext (by
      show off a + 1 * (y a).val = (y a).val
      rw [h0 a]; omega)
    show M.view.read (Elt F) f ((Rect.unit (s := s) off s.size h).emb y) = M.view.read (Elt F) f y
    rw [e2]
  rw [e1]
  iapply Hk
  iexists f
  isplitr
  · ipureintro; exact hf
  · iexact H

section Body

variable (arg1 : Memref sig .tc .vmem S16x2048 .f32) (harg1 : arg1.IsWhole) (arg2 : Memref sig .tc .vmem S1x16 .f32) (harg2 : arg2.IsWhole)
  (arg3 : Memref sig .tc .vmem S4x16x4096 .f32) (harg3 : arg3.IsWhole) (arg4 : Memref sig .tc .vmem S4x2x4096 .f32) (harg4 : arg4.IsWhole)
  (arg5 : Memref sig .tc .vmem S4x2x4096 .i32) (harg5 : arg5.IsWhole)

/-- The loads of the weights and the bias, and the first five issues. -/
theorem part5 (c : Dev nD) (X : XBuf F) (w : Vec F S16x2048 .f32) (b : Vec F S1x16 .f32)
    {Q : (Σ' (_ : Vec F S16x2048 .f32), FVec F S16x1 .f32) → sProp 𝕄} :
    iprop(sent c X 0 ∗ owns (c : Thread nD τ) arg1 fullShare w ∗ owns (c : Thread nD τ) arg2 fullShare b)
      ⊢ iprop((iprop(sent c X 5 ∗ owns (c : Thread nD τ) arg1 fullShare w ∗ owns (c : Thread nD τ) arg2 fullShare b) -∗ Q ⟨w, k0_pay12 b⟩)
        -∗ wpK c (k0_part5 xM (Memref.isWhole_whole _) arg1 harg1 arg2 harg2 arg3 harg3 arg4 harg4 arg5 harg5 scM (Memref.isWhole_whole _) cc0_scratch1) Q) := by
  rw [k0_part5_eq_skeleton]
  unfold k0_part5_skel wpK
  simp only [wp_bind]
  iintro ⟨H, H1, H2⟩ Hk
  iapply (take c arg1 w ![0, 0] (by decide) inb_S16x2048_S16x2048_0_0) $$ H1
  iintro H1
  iapply (take c arg2 b ![0, 0] (by decide) inb_S1x16_S1x16_0_0) $$ H2
  iintro H2
  repeat (iapply (first_issue c X _ (by decide) rfl rfl rfl) $$ H; iintro H)
  rw [wp_pure]
  imodintro
  iapply Hk
  isplitl [H]; · iexact H
  isplitl [H1]; · iexact H1
  iexact H2

/-- The next six issues, -/
theorem part6 (c : Dev nD) (X : XBuf F) {Q : PUnit → sProp 𝕄} :
    sent c X 5 ⊢ iprop((sent c X 11 -∗ Q ⟨⟩)
        -∗ wpK c (k0_part6 xM (Memref.isWhole_whole _) arg1 harg1 arg2 harg2 arg3 harg3 arg4 harg4 arg5 harg5 scM (Memref.isWhole_whole _) cc0_scratch1) Q) := by
  rw [k0_part6_eq_skeleton]
  unfold k0_part6_skel wpK
  simp only [wp_bind]
  iintro H Hk
  repeat (iapply (first_issue c X _ (by decide) rfl rfl rfl) $$ H; iintro H)
  rw [wp_pure]
  imodintro
  iapply Hk; iexact H

/-- the six after them, -/
theorem part7 (c : Dev nD) (X : XBuf F) {Q : PUnit → sProp 𝕄} :
    sent c X 11 ⊢ iprop((sent c X 17 -∗ Q ⟨⟩)
        -∗ wpK c (k0_part7 xM (Memref.isWhole_whole _) arg1 harg1 arg2 harg2 arg3 harg3 arg4 harg4 arg5 harg5 scM (Memref.isWhole_whole _) cc0_scratch1) Q) := by
  rw [k0_part7_eq_skeleton]
  unfold k0_part7_skel wpK
  simp only [wp_bind]
  iintro H Hk
  repeat (iapply (first_issue c X _ (by decide) rfl rfl rfl) $$ H; iintro H)
  rw [wp_pure]
  imodintro
  iapply Hk; iexact H

/-- and the six after those. -/
theorem part8 (c : Dev nD) (X : XBuf F) {Q : PUnit → sProp 𝕄} :
    sent c X 17 ⊢ iprop((sent c X 23 -∗ Q ⟨⟩)
        -∗ wpK c (k0_part8 xM (Memref.isWhole_whole _) arg1 harg1 arg2 harg2 arg3 harg3 arg4 harg4 arg5 harg5 scM (Memref.isWhole_whole _) cc0_scratch1) Q) := by
  rw [k0_part8_eq_skeleton]
  unfold k0_part8_skel wpK
  simp only [wp_bind]
  iintro H Hk
  repeat (iapply (first_issue c X _ (by decide) rfl rfl rfl) $$ H; iintro H)
  rw [wp_pure]
  imodintro
  iapply Hk; iexact H

/-- THE BODY: from the pieces free, the token array, the weights and the bias, to the same with the three outputs at their results. -/
theorem body_spec (c : Dev nD) (X : XBuf F) (w : Vec F S16x2048 .f32) (b : Vec F S1x16 .f32)
    (d3 : S4x16x4096.Idx → Elt F .f32) (d4 : S4x2x4096.Idx → Elt F .f32) (d5 : S4x2x4096.Idx → Elt F .i32) :
    iprop((bigSep Finset.univ fun p : Fin 24 => pfree c X p) ∗ (∃ W, owes (c : Thread nD τ) 0 W)
        ∗ owns (c : Thread nD τ) arg1 fullShare w ∗ owns (c : Thread nD τ) arg2 fullShare b
        ∗ owns (c : Thread nD τ) arg3 fullShare d3 ∗ owns (c : Thread nD τ) arg4 fullShare d4 ∗ owns (c : Thread nD τ) arg5 fullShare d5)
      ⊢ wpK c (cc0__router_body xM (Memref.isWhole_whole _) arg1 harg1 arg2 harg2 arg3 harg3 arg4 harg4 arg5 harg5 scM (Memref.isWhole_whole _) cc0_scratch1)
        (fun _ => iprop((bigSep Finset.univ fun p : Fin 24 => pfree c X p) ∗ (∃ W, owes (c : Thread nD τ) 0 W)
          ∗ owns (c : Thread nD τ) arg1 fullShare w ∗ owns (c : Thread nD τ) arg2 fullShare b
          ∗ owns (c : Thread nD τ) arg3 fullShare (G3 w (k0_pay12 b) X) ∗ owns (c : Thread nD τ) arg4 fullShare (G4 w (k0_pay12 b) X)
          ∗ owns (c : Thread nD τ) arg5 fullShare (G5 w (k0_pay12 b) X))) := by
  rw [cc0__router_body_eq_skeleton]
  unfold cc0__router_body_skel wpK
  simp only [wp_bind]
  iintro ⟨H, HW, H1, H2, H3, H4, H5⟩
  ihave H := (Entails.of_eq (sent_zero c X).symm) $$ H
  iapply (part5 arg1 harg1 arg2 harg2 arg3 harg3 arg4 harg4 arg5 harg5 c X w b) $$ [H H1 H2]
  · isplitl [H]; · iexact H
    isplitl [H1]; · iexact H1
    iexact H2
  iintro ⟨H, H1, H2⟩
  dsimp only
  iapply (part6 arg1 harg1 arg2 harg2 arg3 harg3 arg4 harg4 arg5 harg5 c X) $$ H
  iintro H
  iapply (part7 arg1 harg1 arg2 harg2 arg3 harg3 arg4 harg4 arg5 harg5 c X) $$ H
  iintro H
  iapply (part8 arg1 harg1 arg2 harg2 arg3 harg3 arg4 harg4 arg5 harg5 c X) $$ H
  iintro H
  iapply (first_issue c X _ (by decide) rfl rfl rfl) $$ H
  iintro H
  ihave H := (show sent c X (23 + 1) ⊢ ring c X 0 from Entails.of_eq (sent_all c X)) $$ H
  ihave H3 := (outAt_zero c arg3 (G3 w (k0_pay12 b) X) chA d3) $$ H3
  ihave H4 := (outAt_zero c arg4 (G4 w (k0_pay12 b) X) chB d4) $$ H4
  ihave H5 := (outAt_zero c arg5 (G5 w (k0_pay12 b) X) chB d5) $$ H5
  iapply (Scf.wp_for Idealize.ShloMosaic.frame (wpE (defs₀ (F := F)) Variants.none (c : Thread nD τ) none) Set.univ
    k0_t1_loop.lb k0_t1_loop.ub k0_t1_loop.st k0_t1_ok ⟨⟩ _ (fun k _ => inv arg3 arg4 arg5 c X w (k0_pay12 b) k)
    (fun k _ => trip arg1 harg1 arg2 harg2 arg3 harg3 arg4 harg4 arg5 harg5 c X w (k0_pay12 b) k))
  isplitl [H HW H3 H4 H5]
  · unfold inv
    isplitl [H]; · iexact H
    isplitl [HW]; · iexact HW
    isplitl [H3]; · iexact H3
    isplitl [H4]; · iexact H4
    iexact H5
  iintro %_ H
  ihave H := (show inv arg3 arg4 arg5 c X w (k0_pay12 b) k0_t1_loop.trips ⊢ inv arg3 arg4 arg5 c X w (k0_pay12 b) 16 from
    Entails.of_eq (by rw [trips_eq])) $$ H
  unfold inv
  icases H with ⟨H, HW, H3, H4, H5⟩
  rw [wp_pure]
  imodintro
  isplitl [H]; · iapply (Entails.of_eq (ring_done c X)); iexact H
  isplitl [HW]; · iexact HW
  isplitl [H1]; · iexact H1
  isplitl [H2]; · iexact H2
  isplitl [H3]; · iapply (outAt_last c arg3 _ chA 16 chA_lt); iexact H3
  isplitl [H4]; · iapply (outAt_last c arg4 _ chB 16 chB_lt); iexact H4
  iapply (outAt_last c arg5 _ chB 16 chB_lt); iexact H5

end Body

end Cert.KernelIdeal.Hand

end
-- ==== Proof.Ideal.Launch.lean ====
/-
  The router kernel launched: what the launch hands the body (the streaming buffer, the transfer cells, the token array) is
  cut into the 24 pieces the body works with and put together again afterwards; the run of the whole program with its
  arrays' contents named; and the frame.
-/
module

public import proofs.«01_k».proof.Proof.Ideal.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-! ## The kernel's own cells and operand -/

/-- The kernel's own cells: one per piece of the streaming buffer. -/
abbrev osem0 : Fin 24 → SemLoc sig := fun p => SemLoc.dma (cellOf p)
theorem ownSemFacts0 : Pipeline.OwnSemFacts spec0 osem0 := by decide

/-- The operand the kernel reads by its own transfers: the token array. -/
def H0 : Finset (Ref sig .tc) := {main_v0}
theorem H0_sub : H0 ⊆ Pipeline.restRefs sig spec0 := by decide

/-- What the launch hands the body, written out. -/
theorem PhiD0_eq (c : Dev nD) :
    (Pipeline.ΦD osem0 spec0 H0 (V m) c : sProp 𝕄)
      = iprop((∃ f : SBuf F, ((c : Thread nD τ).loc cc0_scratch0) ↦{fullShare} f) ∗ (∃ r, prngReg c r)
          ∗ (bigSep Finset.univ fun p : Fin 24 => cell0 c p)
          ∗ (((c : Thread nD τ).loc main_v0) ↦{fullShare} V m c main_v0)) := by
  rw [Pipeline.ΦD_eq, scopedRest0_eq, BI.bigSep_eq_bigSepL_of_eq (S := H0) [main_v0] (by decide) (by decide)]
  rfl

/-! ## The pieces -/

theorem pcS_parts : ∀ p p' : Fin 24, p ≠ p' → Disjoint (pcS p.val) (pcS p'.val) :=
  fun p p' h => pcS_disjoint _ _ fun e => h (Fin.ext e)

theorem pcS_cover : (Finset.univ : Finset (Fin 24)).biUnion (fun p => pcS p.val) = Finset.univ := by
  ext i
  simp only [Finset.mem_biUnion, Finset.mem_univ, true_and, iff_true]
  have h : (i 0).val < 6144 := (i 0).isLt
  refine ⟨⟨(i 0).val / 256, by omega⟩, ?_⟩
  rw [mem_pcS]
  show 256 * ((i 0).val / 256) ≤ _ ∧ _ < 256 * ((i 0).val / 256) + 256
  omega

/-- The streaming buffer, the cells and the token array, cut into the 24 pieces; a share of the token array is left over. -/
theorem pieces_in (c : Dev nD) (X : XBuf F) (f : SBuf F) :
    iprop((((c : Thread nD τ).loc cc0_scratch0) ↦{fullShare} f) ∗ (bigSep Finset.univ fun p : Fin 24 => cell0 c p)
        ∗ (((c : Thread nD τ).loc main_v0) ↦{fullShare} X))
      ⊢ (iprop((bigSep Finset.univ fun p : Fin 24 => pfree c X p)
          ∗ (((c : Thread nD τ).loc main_v0) ↦{shareDrop fullShare 24} X)) : sProp 𝕄) := by
  have e1 : (((c : Thread nD τ).loc cc0_scratch0) ↦{fullShare} f : sProp 𝕄)
      ⊢ bigSep Finset.univ fun p : Fin 24 => iprop(∃ f, pieceS c p.val f) := by
    refine (Entails.of_eq (Ring.pointsTo_blocks (ℓ := (c : Thread nD τ).loc cc0_scratch0) (fun p : Fin 24 => pcS p.val) pcS_parts pcS_cover f)).trans ?_
    exact bigSep_mono fun p _ => (show pieceS c p.val f ⊢ iprop(∃ f, pieceS c p.val f) from by iintro H; iexists f; iexact H)
  have e2 : (((c : Thread nD τ).loc main_v0) ↦{fullShare} X : sProp 𝕄)
      ⊢ iprop((((c : Thread nD τ).loc main_v0) ↦{shareDrop fullShare 24} X) ∗ bigSep Finset.univ fun p : Fin 24 => shareX c X p.val) :=
    pointsTo_toks_split fullShare 24
  unfold pfree
  rw [bigSep_sep', bigSep_sep']
  iintro ⟨H, HC, HX⟩
  ihave H := e1 $$ H
  ihave HX := e2 $$ HX
  icases HX with ⟨HD, HX⟩
  isplitr [HD]
  · isplitl [HC]; · iexact HC
    isplitl [H]; · iexact H
    iexact HX
  iexact HD

/-- And put together again. -/
theorem pieces_out (c : Dev nD) (X : XBuf F) :
    iprop((bigSep Finset.univ fun p : Fin 24 => pfree c X p)
          ∗ (((c : Thread nD τ).loc main_v0) ↦{shareDrop fullShare 24} X))
      ⊢ (iprop((∃ f : SBuf F, ((c : Thread nD τ).loc cc0_scratch0) ↦{fullShare} f) ∗ (bigSep Finset.univ fun p : Fin 24 => cell0 c p)
        ∗ (((c : Thread nD τ).loc main_v0) ↦{fullShare} X)) : sProp 𝕄) := by
  have e1 : (bigSep Finset.univ fun p : Fin 24 => iprop(∃ f, pieceS c p.val f))
      ⊢ (iprop(∃ f : SBuf F, ((c : Thread nD τ).loc cc0_scratch0) ↦{fullShare} f) : sProp 𝕄) :=
    Ring.pointsTo_blocks_join_exists (ℓ := (c : Thread nD τ).loc cc0_scratch0) (fun p : Fin 24 => pcS p.val) pcS_parts pcS_cover (landed X 0 0 : SBuf F)
  have e2 : iprop((((c : Thread nD τ).loc main_v0) ↦{shareDrop fullShare 24} X) ∗ bigSep Finset.univ fun p : Fin 24 => shareX c X p.val)
      ⊢ (((c : Thread nD τ).loc main_v0) ↦{fullShare} X : sProp 𝕄) :=
    pointsTo_toks_join fullShare 24
  unfold pfree
  rw [bigSep_sep', bigSep_sep']
  iintro ⟨⟨HC, H, HX⟩, HD⟩
  isplitl [H]; · iapply e1; iexact H
  isplitl [HC]; · iexact HC
  iapply e2
  isplitl [HD]; · iexact HD
  iexact HX

/-! ## The lines around the region -/

set_option maxHeartbeats 800000 in
theorem hmain (𝒱₀ : Variants) : Pipeline.HMainK (Ix := Unit) (Name := ℕ) (U := Pipeline.UD sig nD τ) (Lvl := ℕ) cfgs 0 defs₀ 𝒱₀ m main (V m)
      (fun _ => Pipeline.chain ([hostOps1 (F := F)].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region leave the token array alone. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl | rfl
  all_goals
    simp only [StableHlo.unary_bufs, Finset.mem_insert, Finset.mem_singleton, not_or]
    exact ⟨StableHlo.devRef_ne_of_ne (by decide), StableHlo.devRef_ne_of_ne (by decide)⟩

/-! ## The arrays' contents -/

/-- What the launch leaves in the first result (weights), from the token array, the weights and the bias as the region finds them. -/
def R3 (c : Dev nD) : S4x16x4096.Idx → Elt F .f32 := G3 (V m c main_arg1) (k0_pay12 (V m c main_v1)) (V m c main_v0)
/-- In the second (the two largest weights). -/
def R4 (c : Dev nD) : S4x2x4096.Idx → Elt F .f32 := G4 (V m c main_arg1) (k0_pay12 (V m c main_v1)) (V m c main_v0)
/-- In the third (their places). -/
def R5 (c : Dev nD) : S4x2x4096.Idx → Elt F .i32 := G5 (V m c main_arg1) (k0_pay12 (V m c main_v1)) (V m c main_v0)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => R3 m c
    | ⟨3, _⟩ => R4 m c
    | ⟨4, _⟩ => R5 m c
  Φ _ := Pipeline.ΦD osem0 spec0 H0 (V m) c
  q _ := fullShare
  owed _ := 0

/-- The first staged operand is the weights whole. -/
theorem iblk_w (c : Dev nD) (t : Fin cfg0.N) : iblk m c 0 t = V m c main_arg1 := by
  funext y
  refine congrArg (V m c main_arg1) (funext fun a => Fin.ext ?_)
  exact Pipeline.Window.rect_emb_val_of_index_zero (cfg0.win 0) t a rfl y
/-- The second is the bias row whole. -/
theorem iblk_b (c : Dev nD) (t : Fin cfg0.N) : iblk m c 1 t = V m c main_v1 := by
  funext y
  refine congrArg (V m c main_v1) (funext fun a => Fin.ext ?_)
  exact Pipeline.Window.rect_emb_val_of_index_zero (cfg0.win 1) t a rfl y

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = R3 m c := by dsimp only [dats]
theorem after0_3 (c : Dev nD) (t : Fin cfg0.N) : (dats m 0 c).after 3 t = R4 m c := by dsimp only [dats]
theorem after0_4 (c : Dev nD) (t : Fin cfg0.N) : (dats m 0 c).after 4 t = R5 m c := by dsimp only [dats]

/-- The staged weights are in their buffer when the body starts. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
/-- So is the staged bias row. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body from what the pipeline hands it to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl, after0_0, after0_1, after0_2, after0_3, after0_4,
    show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl, iblk_w, iblk_b]
  iintro ⟨⟨⟨%f, HS⟩, Hg, HC, HX⟩, ⟨%W, -, HW⟩, ⟨%d0, H0⟩, ⟨%d1, H1⟩, ⟨%d2, H2⟩, ⟨%d3, H3⟩, ⟨%d4, H4⟩⟩
  ihave HP := (pieces_in c (V m c main_v0) f) $$ [HS HC HX]
  · isplitl [HS]; · iexact HS
    isplitl [HC]; · iexact HC
    iexact HX
  icases HP with ⟨HP, HD⟩
  ihave HB := (body_spec (st0_0 t) (hstage0_0 0) (st0_1 t) (hstage0_1 0) (st0_2 t) (hstage0_2 0) (st0_3 t) (hstage0_3 0) (st0_4 t) (hstage0_4 0)
    c (V m c main_v0) (V m c main_arg1) (V m c main_v1) _ _ _) $$ [HP HW H0 H1 H2 H3 H4]
  · isplitl [HP]; · iexact HP
    isplitl [HW]; · iexists W; iexact HW
    isplitl [H0]; · iexact H0
    isplitl [H1]; · iexact H1
    isplitl [H2]; · iexact H2
    isplitl [H3]; · iexact H3
    iexact H4
  iapply wp_wand $$ HB
  iintro %u ⟨HP, ⟨%W', HW⟩, H0, H1, H2, H3, H4⟩
  ihave HP := (pieces_out c (V m c main_v0)) $$ [HP HD]
  · isplitl [HP]; · iexact HP
    iexact HD
  icases HP with ⟨HS, HC, HX⟩
  isplitl [HS Hg HC HX]
  · isplitl [HS]; · iexact HS
    isplitl [Hg]; · iexact Hg
    isplitl [HC]; · iexact HC
    iexact HX
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs, its arrays end at the named contents, and every counter reads zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m) (hin := fun _ => .rfl) (hout := fun _ => .rfl)

/-- A buffer the lines after the region do not write, and which no window stages, ends as the region finds it. -/
theorem tail_keeps (c : Dev nD) (b : Ref sig .tc) (h : ∀ w, Pipeline.arrRef spec0 w ≠ b) (h3 : b ≠ main_v3) (h4 : b ≠ main_v4) (h5 : b ≠ main_v5) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact ⟨StableHlo.devRef_ne_of_ne h3, StableHlo.devRef_ne_of_ne h4, StableHlo.devRef_ne_of_ne h5⟩)),
    Pipeline.withArrays_of_ne _ c (V0 m c) _ b h]

/-- What a run leaves in the arguments. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans
      ((tail_keeps m c main_arg0 (by decide) (by decide) (by decide) (by decide)).trans (V_main_arg0 m c)),
    ((h c).1 0).trans (((dats m 0 c).arrAt_in 0 rfl _).trans ((A_eq m c 0).trans (V_main_arg1 m c))),
    ((h c).2 main_arg2 (Pipeline.mem_restRefs_of main_arg2 (by decide) (by decide))).trans
      ((tail_keeps m c main_arg2 (by decide) (by decide) (by decide) (by decide)).trans (V_main_arg2 m c))⟩

/-- The frame: the program runs, its arguments end unchanged, every counter reads zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m h.1, h.2⟩) (run_main m ρ)

end Cert.KernelIdeal.Hand

end
-- ==== Proof.Same.lean ====
/-
  The kernel and its ideal reading are one text: no operation was replaced. So the frame, proved once for the text read at
  any arithmetic, is the kernel's at its own.
-/
module

public import proofs.«01_k».proof.Defs
public import proofs.«01_k».proof.Proof.Gen.Kernel
public import proofs.«01_k».proof.Proof.Ideal.Launch

@[expose] public section

set_option maxRecDepth 16384

noncomputable section

namespace Cert.Proof

open Idealize.ShloMosaic Idealize.SL.Sem

variable {F : FTy → Type} [FloatOps F]

/-- The body tables agree: each has one label, the router body. -/
theorem defs₀_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

/-- So do the tables with the pipeline added. -/
theorem defs_same : Cert.Kernel.defs (F := F) = Cert.KernelIdeal.defs (F := F) :=
  congrArg (Pipeline.defs (Cert.KernelIdeal.pcfgs (F := F))) defs₀_same

/-- The kernel's frame. -/
theorem kernel_frame : Cert.quiescent_Kernel := fun m g _ => by
  rw [defs_same]
  exact Cert.KernelIdeal.Hand.frame_run (F := Bits) m g

end Cert.Proof

end
-- ==== Proof.Ideal.Pick.lean ====
/-
  The two greatest of sixteen weights, as a pair of maxima finds them and as a stable sort finds them.
  Nothing here mentions the kernel or the reference.
-/
module

public import Idealize.ShloMosaic.PureOps.Ideal
public import Idealize.ShloMosaic.PureOps.Ideal.Laws
public import Idealize.ShloMosaic.Lib.SortPrefix

@[expose] public section

noncomputable section

namespace Cert.Pick

open Idealize.ShloMosaic

/-- The greatest of sixteen extended reals. -/
def peak (p : Fin 16 → EReal) : EReal := Finset.univ.fold max ⊥ p

theorem le_peak (p : Fin 16 → EReal) (e : Fin 16) : p e ≤ peak p := by
  unfold peak
  exact Finset.le_fold_max (p e) |>.mpr (Or.inr ⟨e, Finset.mem_univ e, le_rfl⟩)

/-- Some position holds the greatest. -/
theorem peak_mem (p : Fin 16 → EReal) : ∃ e, p e = peak p := by
  obtain ⟨e, -, he⟩ := Finset.exists_max_image Finset.univ p ⟨0, Finset.mem_univ 0⟩
  refine ⟨e, le_antisymm (le_peak p e) ?_⟩
  unfold peak
  exact (Finset.fold_max_le (p e)).mpr ⟨bot_le, fun x hx => he x hx⟩

/-- `i` is the first position that holds the greatest. -/
def IsFirst (p : Fin 16 → EReal) (i : Fin 16) : Prop := p i = peak p ∧ ∀ e, p e = peak p → i ≤ e

theorem exists_first (p : Fin 16 → EReal) : ∃ i, IsFirst p i := by
  classical
  obtain ⟨e, he⟩ := peak_mem p
  obtain ⟨i, hi, hm⟩ := Finset.exists_min_image (Finset.univ.filter fun e => p e = peak p) id ⟨e, by simp [he]⟩
  exact ⟨i, (Finset.mem_filter.mp hi).2, fun e he => hm e (by simp [he])⟩

/-- That position. -/
def first (p : Fin 16 → EReal) : Fin 16 := (exists_first p).choose

theorem first_spec (p : Fin 16 → EReal) : IsFirst p (first p) := (exists_first p).choose_spec

/-- The weights with the first greatest struck out. -/
def rest (p : Fin 16 → EReal) : Fin 16 → EReal := fun e => if e = first p then ⊥ else p e

/-- The position of the second greatest. -/
def second (p : Fin 16 → EReal) : Fin 16 := first (rest p)

/-! ## The least word of a column -/

theorem le_toInt_minsi {L : ℤ} {x y : BitVec 32} (hx : L ≤ x.toInt) (hy : L ≤ y.toInt) : L ≤ (IKind.minsi.op x y).toInt := by
  simp only [IKind.op, IntOp.minsi]
  split <;> assumption

theorem le_toInt_fold {L : ℤ} {a : BitVec 32} (ha : L ≤ a.toInt) (f : Fin 16 → BitVec 32) (hf : ∀ e, L ≤ (f e).toInt)
    (s : Finset (Fin 16)) : L ≤ (s.fold IKind.minsi.op a f).toInt := by
  induction s using Finset.induction with
  | empty => simpa using ha
  | insert e s he ih => rw [Finset.fold_insert he]; exact le_toInt_minsi (hf e) ih

/-- The least of sixteen words, if one of them is below all of them and below the starting word, is that one. -/
theorem fold_minsi_eq {a : BitVec 32} (f : Fin 16 → BitVec 32) (i : Fin 16) (ha : (f i).toInt ≤ a.toInt)
    (hf : ∀ e, (f i).toInt ≤ (f e).toInt) : Finset.univ.fold IKind.minsi.op a f = f i := by
  rw [← Finset.insert_erase (Finset.mem_univ i), Finset.fold_insert (Finset.notMem_erase i _)]
  have h := le_toInt_fold ha f hf (Finset.univ.erase i)
  generalize (Finset.univ.erase i).fold IKind.minsi.op a f = y at h ⊢
  simp only [IKind.op, IntOp.minsi, BitVec.slt]
  by_cases hlt : (f i).toInt < y.toInt
  · simp [hlt]
  · simp [hlt]; exact BitVec.eq_of_toInt_eq (by omega)

theorem toInt_pos (e : Fin 16) : (BitVec.ofNat 32 e.val).toInt = e.val := by
  revert e; decide

/-- The least of the words "the position where the greatest stands, sixteen elsewhere" is the first such position. -/
theorem fold_first (p : Fin 16 → EReal) :
    Finset.univ.fold IKind.minsi.op 2147483647#32 (fun e : Fin 16 => if p e = peak p then BitVec.ofNat 32 e.val else 16#32)
      = BitVec.ofNat 32 (first p).val := by
  obtain ⟨h1, h2⟩ := first_spec p
  rw [fold_minsi_eq _ (first p) ?_ ?_]
  · simp only [h1, if_true]
  · simp only [h1, if_true]; rw [toInt_pos, show (2147483647#32 : BitVec 32).toInt = 2147483647 from by decide]; omega
  · intro e
    simp only [h1, if_true]
    rw [toInt_pos]
    split
    · next h => rw [toInt_pos]; exact_mod_cast h2 e h
    · rw [show (16#32 : BitVec 32).toInt = 16 from by decide]; omega

/-! ## The stable sort, greatest first -/

/-- The order of the sort: the greater weight before the smaller. -/
def before (p : Fin 16 → EReal) (k k' : Fin 16) : Bool := decide (p k' < p k)

/-- The same, with the earlier position first among equals. -/
def beforeAt (p : Fin 16 → EReal) (k k' : Fin 16) : Bool := decide (p k' < p k) || (decide (p k = p k') && decide (k < k'))

/-- Of an ascending list of positions the two orders make the same stable sort. -/
theorem stableSort_before (p : Fin 16 → EReal) (l : List (Fin 16)) (hl : l.Pairwise (· < ·)) :
    stableSort (before p) l = stableSort (beforeAt p) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    simp [before, beforeAt, not_lt.mpr hab.le]

/-- Equal lists have equal entries. -/
theorem get_cast_eq {α : Type} {l l' : List α} (h : l = l') {n : Nat} (k : Fin n) (e : n = l.length) (e' : n = l'.length) :
    l.get (k.cast e) = l'.get (k.cast e') := by
  subst h; rfl

theorem sortedFrom_before (p : Fin 16 → EReal) : sortedFrom (before p) = sortedFrom (beforeAt p) := by
  funext k
  have h : sortPositions 16 (before p) = sortPositions 16 (beforeAt p) :=
    stableSort_before p _ (List.pairwise_lt_finRange 16)
  unfold sortedFrom
  exact get_cast_eq h k _ _

theorem strict_beforeAt (p : Fin 16 → EReal) : StrictTotalBefore (beforeAt p) :=
  StrictTotalBefore.of_key_then_position (fun a b : EReal => decide (b < a)) p (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

theorem second_ne_first {p : Fin 16 → EReal} (hp : ∀ e, p e ≠ ⊥) : second p ≠ first p := by
  intro h
  have h1 := (first_spec (rest p)).1
  change rest p (second p) = peak (rest p) at h1
  rw [h, show rest p (first p) = ⊥ from if_pos rfl] at h1
  obtain ⟨e, he⟩ : ∃ e, e ≠ first p := exists_ne (first p)
  have := le_peak (rest p) e
  rw [← h1, show rest p e = p e from if_neg he] at this
  exact hp e (le_bot_iff.mp this)

/-- The weight at the second position is the greatest of the rest. -/
theorem at_second {p : Fin 16 → EReal} (hp : ∀ e, p e ≠ ⊥) : p (second p) = peak (rest p) := by
  have h1 := (first_spec (rest p)).1
  change rest p (second p) = peak (rest p) at h1
  rwa [show rest p (second p) = p (second p) from if_neg (second_ne_first hp)] at h1

theorem not_before_first (p : Fin 16 → EReal) (e : Fin 16) : beforeAt p e (first p) = false := by
  obtain ⟨h1, h2⟩ := first_spec p
  have hle := le_peak p e
  rw [← h1] at hle
  simp only [beforeAt, Bool.or_eq_false_iff, Bool.and_eq_false_iff, decide_eq_false_iff_not, not_lt]
  refine ⟨hle, ?_⟩
  by_cases h : p e = p (first p)
  · exact Or.inr (h2 e (h.trans h1))
  · exact Or.inl h

theorem not_before_second {p : Fin 16 → EReal} (hp : ∀ e, p e ≠ ⊥) (e : Fin 16) (he : e ≠ first p) :
    beforeAt p e (second p) = false := by
  have h1 : rest p (second p) = p (second p) := if_neg (second_ne_first hp)
  have h2 : rest p e = p e := if_neg he
  have := not_before_first (rest p) e
  unfold beforeAt at this ⊢
  rw [show first (rest p) = second p from rfl, h1, h2] at this
  exact this

/-- The first two of the sort are the first greatest and the first greatest of the rest, if no weight is −∞. -/
theorem sorted_pair {p : Fin 16 → EReal} (hp : ∀ e, p e ≠ ⊥) :
    sortedFrom (before p) 0 = first p ∧ sortedFrom (before p) 1 = second p := by
  have key := StrictTotalBefore.sortedFrom_eq_of_prefix (strict_beforeAt p) (k := 2) (by decide) ![first p, second p]
    (by
      intro a b h
      fin_cases a <;> fin_cases b <;> simp_all [second_ne_first hp, (second_ne_first hp).symm])
    (by
      intro a b hab
      fin_cases a <;> fin_cases b <;> simp at hab ⊢
      exact not_before_first p _)
    (by
      intro a e he
      fin_cases a
      · exact not_before_first p e
      · exact not_before_second hp e fun h => he 0 h.symm)
  rw [sortedFrom_before]
  exact ⟨key 0, key 1⟩

end Cert.Pick

end
-- ==== Proof.Ideal.Soft.lean ====
/-
  One token: the sixteen scores, their softmax, and why no weight is −∞ where the inputs are finite.
-/
module

public import proofs.«01_k».proof.Proof.Ideal.Pick

@[expose] public section

noncomputable section

namespace Cert.Pick

open Idealize.ShloMosaic
open scoped BigOperators

/-- The score of one expert for one token: the product of its weights with the token's entries, and its bias. -/
def score (w x : Fin 2048 → EReal) (b : EReal) : EReal := ∑ k, w k * x k + b

/-- The softmax of sixteen scores. -/
def soft (s : Fin 16 → EReal) (e : Fin 16) : EReal :=
  Ideal.div (Ideal.exp (s e - peak s)) (∑ j, Ideal.exp (s j - peak s))

/-- A value that is a real number. -/
def IsReal (a : EReal) : Prop := ∃ r : ℝ, a = r

theorem isReal_iff {a : EReal} : IsReal a ↔ a ≠ ⊥ ∧ a ≠ ⊤ :=
  ⟨fun ⟨r, h⟩ => h ▸ ⟨EReal.coe_ne_bot r, EReal.coe_ne_top r⟩, fun ⟨h1, h2⟩ => ⟨a.toReal, (EReal.coe_toReal h2 h1).symm⟩⟩

theorem IsReal.add {a b : EReal} : IsReal a → IsReal b → IsReal (a + b)
  | ⟨r, hr⟩, ⟨t, ht⟩ => ⟨r + t, by rw [hr, ht, EReal.coe_add]⟩

theorem IsReal.mul {a b : EReal} : IsReal a → IsReal b → IsReal (a * b)
  | ⟨r, hr⟩, ⟨t, ht⟩ => ⟨r * t, by rw [hr, ht, EReal.coe_mul]⟩

/-- Real inputs have real scores. -/
theorem isReal_score {w x : Fin 2048 → EReal} {b : EReal} (hw : ∀ k, IsReal (w k)) (hx : ∀ k, IsReal (x k)) (hb : IsReal b) :
    IsReal (score w x b) :=
  (Finset.sum_induction _ IsReal (fun _ _ => IsReal.add) ⟨0, rfl⟩ fun k _ => (hw k).mul (hx k)).add hb

theorem exp_nonneg (a : EReal) : 0 ≤ Ideal.exp a := by
  induction a with
  | bot => exact le_rfl
  | top => exact le_top
  | coe r => exact EReal.coe_nonneg.mpr (Real.exp_pos r).le

theorem ne_bot_of_nonneg {a : EReal} (h : 0 ≤ a) : a ≠ ⊥ := fun e => absurd (e ▸ h) (by simp)

/-- Of real scores no weight is −∞. -/
theorem soft_ne_bot {s : Fin 16 → EReal} (hs : ∀ e, IsReal (s e)) (e : Fin 16) : soft s e ≠ ⊥ := by
  obtain ⟨i, hi⟩ := peak_mem s
  obtain ⟨r, hr⟩ := hs i
  have hone : Ideal.exp (s i - peak s) = 1 := by
    rw [← hi, hr, ← EReal.coe_sub, sub_self]
    show ((Real.exp 0 : ℝ) : EReal) = 1
    rw [Real.exp_zero, EReal.coe_one]
  have hle : Ideal.exp (s i - peak s) ≤ ∑ j, Ideal.exp (s j - peak s) :=
    Finset.single_le_sum (f := fun j => Ideal.exp (s j - peak s)) (fun j _ => exp_nonneg _) (Finset.mem_univ i)
  rw [hone] at hle
  have h0 : (0 : EReal) < ∑ j, Ideal.exp (s j - peak s) := lt_of_lt_of_le (by norm_num) hle
  unfold soft Ideal.div
  rw [if_neg h0.ne']
  exact ne_bot_of_nonneg (mul_nonneg (exp_nonneg _) (EReal.inv_nonneg_of_nonneg h0.le))

/-- Of real inputs no weight is −∞. -/
theorem weight_ne_bot {w : Fin 16 → Fin 2048 → EReal} {x : Fin 2048 → EReal} {b : Fin 16 → EReal}
    (hw : ∀ e k, IsReal (w e k)) (hx : ∀ k, IsReal (x k)) (hb : ∀ e, IsReal (b e)) (e : Fin 16) :
    soft (fun e => score (w e) x (b e)) e ≠ ⊥ :=
  soft_ne_bot (fun e => isReal_score (hw e) hx (hb e)) e

end Cert.Pick

end
-- ==== Proof.Ideal.Block.lean ====
/-
  What the kernel computes of one chunk of 1024 tokens, read at one token: the softmax of its sixteen scores, the greatest
  and second greatest weight, and their positions.
-/
module

public import proofs.«01_k».proof.Proof.Gen.KernelIdeal.Skeleton
public import proofs.«01_k».proof.Proof.Ideal.Soft
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 16384

noncomputable section

namespace Cert.KernelIdeal.Hand

open Cert.KernelIdeal Cert.KernelIdeal.Gen Cert.Pick
open Idealize.ShloMosaic Idealize.ShloMosaic.ValueIdx
open scoped BigOperators

/-- The word of −∞. -/
theorem ofBits_bot : Ideal.ofBits .f32 0xFF800000#32 = ⊥ := by simp [Ideal.ofBits, Ideal.ieee]

/-- The column of a 16 × 1024 block through token `r`. -/
def col (p : S16x1024.Idx → EReal) (r : Fin 1024) : Fin 16 → EReal := fun e => p (ix2 e r)

theorem lift_col (r : Fin 1024) (e : Fin 16) : reduces_S16x1024_S1024.lift (ix1 r) e = ix2 e r := by
  funext a; match a with | ⟨0, _⟩ => rfl | ⟨1, _⟩ => rfl

/-- The maximum down a column. -/
theorem max_col (p : FVec Ideal S16x1024 .f32) (r : Fin 1024) :
    multiReduction .maximumf [0] S1024 p 0xFF800000#32 reduces_S16x1024_S1024 (.inl rfl) rfl (ix1 r) = peak (col p r) := by
  refine (Ideal.multiReduction_maximumf_single p 0xFF800000#32 reduces_S16x1024_S1024 (.inl rfl) rfl (ix1 r)).trans ?_
  show (Finset.univ : Finset (Fin 16)).fold max (Ideal.ofBits .f32 0xFF800000#32) _ = _
  rw [ofBits_bot]
  unfold peak
  congr 1
  funext e
  exact congrArg p (lift_col r e)

/-- The sum down a column. -/
theorem sum_col (p : FVec Ideal S16x1024 .f32) (r : Fin 1024) :
    multiReduction .add [0] S1024 p 0x00000000#32 reduces_S16x1024_S1024 (.inl rfl) rfl (ix1 r) = ∑ e, col p r e := by
  refine (Ideal.multiReduction_add_single p 0x00000000#32 reduces_S16x1024_S1024 (.inl rfl) rfl (ix1 r)).trans ?_
  exact Finset.sum_congr rfl fun e _ => congrArg p (lift_col r e)

/-- The least word down a column. -/
theorem min_col (p : IVec S16x1024 32) (r : Fin 1024) :
    multiReductionI .minsi [0] S1024 p 2147483647#32 reduces_S16x1024_S1024 rfl (ix1 r)
      = Finset.univ.fold IKind.minsi.op 2147483647#32 fun e : Fin 16 => p (ix2 e r) := by
  refine (multiReductionI_eq_fold .minsi p 2147483647#32 reduces_S16x1024_S1024 rfl (ix1 r)).trans ?_
  rw [reduces_S16x1024_S1024.fold_filter_drop_single]
  show (Finset.univ : Finset (Fin 16)).fold _ _ _ = _
  congr 1
  funext e
  exact congrArg p (lift_col r e)

/-- A row of 1024 values put under each of the sixteen experts. -/
theorem down_col {α : Type} (v : S1024.Idx → α) (e : Fin 16) (r : Fin 1024) :
    broadcastTo S16x1024 (shapeCast S1x1024 v shapeCasts_S1024_S1x1024) broadcasts_S1x1024_S16x1024 (ix2 e r) = v (ix1 r) :=
  (broadcastTo_1b_ab_apply _ _ e r).trans (shapeCast_a_1a_apply v _ 0 r)

/-- A column of sixteen biases put beside each of the 1024 tokens. -/
theorem bias_col {α : Type} (v : S16x1.Idx → α) (e : Fin 16) (r : Fin 1024) :
    broadcastTo S16x1024 v broadcasts_S16x1_S16x1024 (ix2 e r) = v (ix2 e 0) :=
  broadcastTo_apply v _ _ _ fun a => by match a with | ⟨0, _⟩ => rfl | ⟨1, _⟩ => rfl

variable (w : FVec Ideal S16x2048 .f32) (b : FVec Ideal S16x1 .f32) (x : FVec Ideal S1024x2048 .f32)

/-- The sixteen scores of the chunk's token `r`. -/
def tokScore (r : Fin 1024) : Fin 16 → EReal := fun e => score (fun k => w (ix2 e k)) (fun k => x (ix2 r k)) (b (ix2 e 0))

/-- The scores, as the kernel forms them. -/
def scores : FVec Ideal S16x1024 .f32 :=
  addf (matmul dot_S16x2048_S1024x2048_S16x1024_1_1_0_0_n_n none w x (constant S16x1024 .f32 0x00000000#32))
    (broadcastTo S16x1024 b broadcasts_S16x1_S16x1024)

theorem scores_col (r : Fin 1024) : col (scores w b x) r = tokScore w b x r := by
  funext e
  unfold col scores tokScore score
  rw [addf_apply, bias_col]
  refine congrArg (· + b (ix2 e 0)) ?_
  have := Ideal.matmul_transposedRhs_apply (M := 16) (K := 2048) (N := 1024) none w x (constant (F := Ideal) S16x1024 .f32 0x00000000#32) e r
  rw [show (constant (F := Ideal) S16x1024 .f32 0x00000000#32) (ix2 e r) = (0 : EReal) from Ideal.ofBits_zero_f32, zero_add] at this
  exact this

/-- The weights of the chunk are, token by token, the softmax of the scores. -/
theorem pay3_apply (e : Fin 16) (r : Fin 1024) : k0_pay3 w b x (ix2 e r) = soft (tokScore w b x r) e := by
  rw [← scores_col]
  show Ideal.div (Ideal.exp (scores w b x (ix2 e r) - broadcastTo S16x1024 (shapeCast S1x1024 _ _) _ (ix2 e r)))
    (broadcastTo S16x1024 (shapeCast S1x1024 _ _) _ (ix2 e r)) = _
  rw [down_col, down_col, sum_col]
  unfold soft
  refine congrArg₂ Ideal.div ?_ (Finset.sum_congr rfl fun j _ => ?_)
  · exact congrArg (fun z => Ideal.exp (scores w b x (ix2 e r) - z)) (max_col _ r)
  · show Ideal.exp (scores w b x (ix2 j r) - broadcastTo S16x1024 (shapeCast S1x1024 _ _) _ (ix2 j r)) = _
    rw [down_col]
    exact congrArg (fun z => Ideal.exp (scores w b x (ix2 j r) - z)) (max_col _ r)

/-- The weights of token `r`. -/
theorem pay3_col (r : Fin 1024) : col (k0_pay3 w b x) r = soft (tokScore w b x r) :=
  funext fun e => pay3_apply w b x e r

/-- A comparison for equality picks as the equation does. -/
theorem select_oeq {α : Type} (a c : EReal) (u v : α) : Scalar.select (Ideal.cmp .oeq a c) u v = if a = c then u else v := by
  unfold Ideal.cmp
  by_cases h : a = c <;> simp [h, Scalar.select]

/-- The positions down a column. -/
theorem iota_col (e : Fin 16) (r : Fin 1024) : iota .tc S16x1024 32 [0] iota_S16x1024_d0_w32 (ix2 e r) = BitVec.ofNat 32 e.val :=
  iota_single_apply _ _ _ _ _ _

/-- The first position of a column's maximum. -/
theorem argmax_col (p : FVec Ideal S16x1024 .f32) (m : FVec Ideal S16x1024 .f32) (r : Fin 1024)
    (hm : ∀ e, m (ix2 e r) = peak (col p r)) :
    shapeCast S1x1024 (multiReductionI .minsi [0] S1024 (select (cmpf .oeq p m) (iota .tc S16x1024 32 [0] iota_S16x1024_d0_w32)
      (broadcast S16x1024 16#32)) 2147483647#32 reduces_S16x1024_S1024 rfl) shapeCasts_S1024_S1x1024 (ix2 0 r)
      = BitVec.ofNat 32 (first (col p r)).val := by
  rw [shapeCast_a_1a_apply, min_col, ← fold_first]
  congr 1
  funext e
  rw [select_apply, cmpf_apply, hm e, iota_col, broadcast_apply]
  exact select_oeq _ _ _ _

theorem pay4_apply (r : Fin 1024) : k0_pay4 w b x (ix2 0 r) = peak (soft (tokScore w b x r)) := by
  rw [← pay3_col]
  unfold k0_pay4
  exact (shapeCast_a_1a_apply _ _ 0 r).trans (max_col (k0_pay3 w b x) r)

theorem pay5_apply (r : Fin 1024) : k0_pay5 w b x (ix2 0 r) = BitVec.ofNat 32 (first (soft (tokScore w b x r))).val := by
  rw [← pay3_col]
  exact argmax_col _ _ r fun e => (down_col _ e r).trans (max_col _ r)

/-- Two positions' words are equal just when the positions are. -/
theorem cmpi_pos {α : Type} (e i : Fin 16) (u v : α) :
    Scalar.select (IntOp.cmpi .eq (BitVec.ofNat 32 e.val) (BitVec.ofNat 32 i.val)) u v = if e = i then u else v := by
  have : IntOp.cmpi .eq (BitVec.ofNat 32 e.val) (BitVec.ofNat 32 i.val) = BitVec.ofBool (decide (e = i)) := by
    revert e i; decide
  rw [this]
  by_cases h : e = i <;> simp [h, Scalar.select]

theorem pay6_col (r : Fin 1024) : col (k0_pay6 w b x) r = rest (soft (tokScore w b x r)) := by
  funext e
  show Scalar.select (IntOp.cmpi .eq (iota .tc S16x1024 32 [0] iota_S16x1024_d0_w32 (ix2 e r))
    (broadcastTo S16x1024 (k0_pay5 w b x) broadcasts_S1x1024_S16x1024 (ix2 e r))) (Ideal.ofBits .f32 0xFF800000#32)
      (k0_pay3 w b x (ix2 e r)) = _
  rw [iota_col, broadcastTo_1b_ab_apply, pay5_apply, cmpi_pos, ofBits_bot, pay3_apply]
  rfl

theorem pay7_apply (r : Fin 1024) : k0_pay7 w b x (ix2 0 r) = peak (rest (soft (tokScore w b x r))) := by
  rw [← pay6_col]
  unfold k0_pay7
  exact (shapeCast_a_1a_apply _ _ 0 r).trans (max_col (k0_pay6 w b x) r)

theorem pay8_apply (e : Fin 16) (r : Fin 1024) : k0_pay8 w b x (ix2 e r) = peak (rest (soft (tokScore w b x r))) := by
  rw [← pay7_apply]
  generalize hv : k0_pay7 w b x = v
  unfold k0_pay8
  rw [hv]
  exact broadcastTo_1b_ab_apply v _ e r

theorem pay9_apply (r : Fin 1024) :
    k0_pay9 (iota .tc S16x1024 32 [0] iota_S16x1024_d0_w32) (k0_pay6 w b x) (k0_pay8 w b x) (ix2 0 r)
      = BitVec.ofNat 32 (second (soft (tokScore w b x r))).val := by
  unfold second
  rw [← pay6_col]
  exact argmax_col (k0_pay6 w b x) (k0_pay8 w b x) r fun e => (pay8_apply w b x e r).trans (by rw [pay6_col])

end Cert.KernelIdeal.Hand

end
-- ==== Proof.Spec.lean ====
/-
  The three results as functions of the three arguments, token by token: what both programs are shown to compute.
-/
module

public import proofs.«01_k».proof.Proof.Ideal.Soft
public import Idealize.ShloMosaic.Lib.ValueIdx

@[expose] public section

noncomputable section

namespace Cert.Pick

open Idealize.ShloMosaic Idealize.ShloMosaic.ValueIdx

variable (x : (⟨3, ![4, 4096, 2048]⟩ : Shape).Idx → EReal) (w : (⟨2, ![16, 2048]⟩ : Shape).Idx → EReal)
  (b : (⟨1, ![16]⟩ : Shape).Idx → EReal)

/-- The sixteen weights of token `s` of sequence `a`. -/
def tok (a : Fin 4) (s : Fin 4096) : Fin 16 → EReal :=
  soft fun e => score (fun k => w (ix2 e k)) (fun k => x (ix3 a s k)) (b (ix1 e))

/-- The greatest and the second greatest of sixteen weights. -/
def top (p : Fin 16 → EReal) (k : Fin 2) : EReal := if k = 0 then peak p else peak (rest p)

/-- Where they stand. -/
def place (p : Fin 16 → EReal) (k : Fin 2) : BitVec 32 := BitVec.ofNat 32 (if k = 0 then first p else second p).val

/-- The first result: the weights. -/
def outW : (⟨3, ![4, 4096, 16]⟩ : Shape).Idx → EReal := fun y => tok x w b (y 0) (y 1) (y 2)
/-- The second result: the two greatest weights of each token. -/
def outV : (⟨3, ![4, 4096, 2]⟩ : Shape).Idx → EReal := fun y => top (tok x w b (y 0) (y 1)) (y 2)
/-- The third result: their positions. -/
def outI : (⟨3, ![4, 4096, 2]⟩ : Shape).Idx → BitVec 32 := fun y => place (tok x w b (y 0) (y 1)) (y 2)

/-- Of real inputs no weight is −∞. -/
theorem tok_ne_bot (hx : ∀ i, IsReal (x i)) (hw : ∀ i, IsReal (w i)) (hb : ∀ i, IsReal (b i)) (a : Fin 4) (s : Fin 4096) (e : Fin 16) :
    tok x w b a s e ≠ ⊥ :=
  weight_ne_bot (w := fun e k => w (ix2 e k)) (b := fun e => b (ix1 e)) (fun e k => hw _) (fun k => hx _) (fun e => hb _) e

end Cert.Pick

end
-- ==== Proof.Ideal.Whole.lean ====
/-
  The kernel's three arrays read at an index: sequence, expert (or rank) and token.
-/
module

public import proofs.«01_k».proof.Proof.Ideal.Launch
public import proofs.«01_k».proof.Proof.Ideal.Block
public import proofs.«01_k».proof.Proof.Spec

@[expose] public section

set_option maxRecDepth 16384

noncomputable section

namespace Cert.KernelIdeal.Hand

open Cert.KernelIdeal Cert.KernelIdeal.Gen Cert.Pick
open Idealize.ShloMosaic hiding ix1 ix2 ix3
open Idealize.ShloMosaic.TcCoe Idealize.ShloMosaic.ValueIdx Idealize.SL.Sem
open scoped BigOperators

section Chunk

variable (w : FVec Ideal S16x2048 .f32) (b : FVec Ideal S16x1 .f32) (x : FVec Ideal S1024x2048 .f32)

theorem P3_apply (e : Fin 16) (r : Fin 1024) : P3 w b x (ix3 0 e r) = soft (tokScore w b x r) e := by
  rw [← pay3_apply]
  generalize hp : k0_pay3 w b x = p
  unfold P3 k0_pay10
  rw [hp]
  exact shapeCast_ab_1ab_apply p _ 0 e r

/-- Two rows stacked. -/
theorem stack_apply {α : Type} (u v : S1x1024.Idx → α) (k : Fin 2) (r : Fin 1024) :
    shapeCast S1x2x1024 (concatenate S2x1024 0 [⟨S1x1024, u⟩, ⟨S1x1024, v⟩] concatenates_S1x1024_S1x1024_S2x1024_d0)
      shapeCasts_S2x1024_S1x2x1024 (ix3 0 k r) = if k = 0 then u (ix2 0 r) else v (ix2 0 r) := by
  rw [shapeCast_ab_1ab_apply]
  match k with
  | 0 => exact concatenate_pair_apply_left (t := S2x1024) 0 u v _ (ix2 0 r) rfl (ix2 0 r) fun a => by
          match a with | ⟨0, _⟩ => rfl | ⟨1, _⟩ => rfl
  | 1 => exact concatenate_pair_apply_right (t := S2x1024) 0 u v _ (ix2 1 r) rfl rfl (ix2 0 r)
          (fun a ha => by match a with | ⟨0, _⟩ => exact absurd rfl ha | ⟨1, _⟩ => rfl) rfl

theorem P4_apply (k : Fin 2) (r : Fin 1024) : P4 w b x (ix3 0 k r) = top (soft (tokScore w b x r)) k := by
  unfold top
  rw [← pay4_apply, ← pay7_apply]
  generalize hu : k0_pay4 w b x = u
  generalize hv : k0_pay7 w b x = v
  unfold P4 k0_pay1 k0_pay11
  rw [hu, hv]
  exact stack_apply u v k r

theorem P5_apply (k : Fin 2) (r : Fin 1024) : P5 w b x (ix3 0 k r) = place (soft (tokScore w b x r)) k := by
  have h : place (soft (tokScore w b x r)) k = if k = 0 then BitVec.ofNat 32 (first (soft (tokScore w b x r))).val
      else BitVec.ofNat 32 (second (soft (tokScore w b x r))).val := by
    unfold place; split <;> rfl
  rw [h, ← pay5_apply, ← pay9_apply]
  generalize hu : k0_pay5 w b x = u
  generalize hv : k0_pay9 (iota .tc S16x1024 32 [0] iota_S16x1024_d0_w32) (k0_pay6 w b x) (k0_pay8 w b x) = v
  unfold P5 k0_pay2
  rw [hu, hv]
  exact stack_apply u v k r

end Chunk

variable (m : (ℓ : Loc nD τ sig) → Buf (Elt Ideal) ℓ) (c : Dev nD)

/-- The region finds the tokens as one table of rows. -/
theorem V_v0 : V m c main_v0 = shapeCast S16384x2048 (m ((c.tc : Thread nD τ).loc main_arg0)) shapeCasts_S4x4096x2048_S16384x2048 := by
  show StableHlo.after _ _ _ = _
  simp only [hostOps0, List.flatten_cons, List.flatten_nil, List.append_nil]
  after_results <;> rfl

/-- And the biases as one row. -/
theorem V_v1 : V m c main_v1 = shapeCast S1x16 (m ((c.tc : Thread nD τ).loc main_arg2)) shapeCasts_S16_S1x16 := by
  show StableHlo.after _ _ _ = _
  simp only [hostOps0, List.flatten_cons, List.flatten_nil, List.append_nil]
  after_results <;> rfl

/-- A row of the table of tokens, as the chunks number them. -/
theorem row_apply {α : Type} (x : S4x4096x2048.Idx → α) (a : Fin 4) (s : Fin 4096) (k : Fin 2048) :
    shapeCast S16384x2048 x shapeCasts_S4x4096x2048_S16384x2048 (rowX (1024 * (4 * a.val + s.val / 1024) + s.val % 1024) k)
      = x (ix3 a s k) := by
  refine shapeCast_apply _ _ _ _ ?_
  rw [Shape.rowMajor_val_three, Shape.rowMajor_val_two]
  show (a.val * 4096 + s.val) * 2048 + k.val = (1024 * (4 * a.val + s.val / 1024) + s.val % 1024) % 16384 * 2048 + k.val
  have := a.isLt
  have := s.isLt
  omega

/-- The row of token `s` of sequence `a`. -/
theorem V_v0_apply (a : Fin 4) (s : Fin 4096) (k : Fin 2048) :
    V m c main_v0 (rowX (1024 * (4 * a.val + s.val / 1024) + s.val % 1024) k) = m ((c.tc : Thread nD τ).loc main_arg0) (ix3 a s k) := by
  rw [V_v0]
  exact row_apply _ a s k

/-- The bias of expert `e`. -/
theorem V_v1_apply (e : Fin 16) : k0_pay12 (V m c main_v1) (ix2 e 0) = m ((c.tc : Thread nD τ).loc main_arg2) (ix1 e) := by
  rw [V_v1]
  generalize m ((c.tc : Thread nD τ).loc main_arg2) = b
  unfold k0_pay12
  refine (transpose_ix2_apply _ _ e 0).trans ?_
  refine (shapeCast_apply _ _ _ (ix2 0 e) rfl).trans ?_
  exact shapeCast_a_1a_apply b _ 0 e

/-- The scores of token `s` of sequence `a`, as its chunk holds them. -/
theorem tokScore_eq (a : Fin 4) (s : Fin 4096) (h : s.val % 1024 < 1024) :
    soft (tokScore (V m c main_arg1) (k0_pay12 (V m c main_v1)) (blk (V m c main_v0) (4 * a.val + s.val / 1024)) ⟨s.val % 1024, h⟩)
      = tok (m ((c.tc : Thread nD τ).loc main_arg0)) (m ((c.tc : Thread nD τ).loc main_arg1)) (m ((c.tc : Thread nD τ).loc main_arg2)) a s := by
  unfold tok tokScore
  congr 1
  funext e
  rw [V_v1_apply, V_main_arg1]
  congr 1
  funext k
  exact V_v0_apply m c a s k

theorem R3_apply (a : Fin 4) (e : Fin 16) (s : Fin 4096) : R3 m c (ix3 a e s)
    = tok (m ((c.tc : Thread nD τ).loc main_arg0)) (m ((c.tc : Thread nD τ).loc main_arg1)) (m ((c.tc : Thread nD τ).loc main_arg2)) a s e := by
  rw [← tokScore_eq m c a s (Nat.mod_lt _ (by decide)), ← P3_apply]
  refine congrArg (P3 _ _ _) ?_
  funext i
  match i with | ⟨0, _⟩ => rfl | ⟨1, _⟩ => rfl | ⟨2, _⟩ => rfl

theorem loB_ix (a : Fin 4) (k : Fin 2) (s : Fin 4096) : loB (ix3 a k s) = ix3 0 k ⟨s.val % 1024, Nat.mod_lt _ (by decide)⟩ := by
  funext i
  match i with | ⟨0, _⟩ => rfl | ⟨1, _⟩ => rfl | ⟨2, _⟩ => rfl

theorem R4_apply (a : Fin 4) (k : Fin 2) (s : Fin 4096) : R4 m c (ix3 a k s)
    = top (tok (m ((c.tc : Thread nD τ).loc main_arg0)) (m ((c.tc : Thread nD τ).loc main_arg1)) (m ((c.tc : Thread nD τ).loc main_arg2)) a s) k := by
  rw [← tokScore_eq m c a s (Nat.mod_lt _ (by decide)), ← P4_apply]
  exact congrArg (P4 _ _ _) (loB_ix a k s)

theorem R5_apply (a : Fin 4) (k : Fin 2) (s : Fin 4096) : R5 m c (ix3 a k s)
    = place (tok (m ((c.tc : Thread nD τ).loc main_arg0)) (m ((c.tc : Thread nD τ).loc main_arg1)) (m ((c.tc : Thread nD τ).loc main_arg2)) a s) k := by
  rw [← tokScore_eq m c a s (Nat.mod_lt _ (by decide)), ← P5_apply]
  exact congrArg (P5 _ _ _) (loB_ix a k s)

end Cert.KernelIdeal.Hand

end
-- ==== Proof.Ideal.Result.lean ====
/-
  The kernel's run: the three results as functions of the three arguments.
-/
module

public import proofs.«01_k».proof.Proof.Ideal.Whole
public import Idealize.ShloMosaic.Lib.Pipeline.ValueKit

@[expose] public section

set_option maxRecDepth 16384

noncomputable section

namespace Cert.KernelIdeal.Hand

open Cert.KernelIdeal Cert.KernelIdeal.Gen Cert.Pick
open Idealize.ShloMosaic hiding ix1 ix2 ix3
open Idealize.ShloMosaic.TcCoe Idealize.ShloMosaic.ValueIdx Idealize.SL.Sem Idealize.ShloMosaic.Tactic
open Idealize.ShloMosaic.Pipeline (Dat)

section Arrays

variable {F : FTy → Type} [FloatOps F] (m : (ℓ : Loc nD τ sig) → Buf (Elt F) ℓ) (c : Dev nD)

/-- The array of weights, once the pipeline has written it back. -/
theorem arr_weights : (dats m 0 c).arrAt 2 cfg0.N = R3 m c := by
  refine Dat.arrAt_eq_of_covers (dats m 0 c) 2 (R3 m c) (by decide +kernel) fun t hf y => ?_
  blk_simp
  rw [after0_2]
  exact congrArg (R3 m c) (funext fun a => Fin.ext (Pipeline.Window.rect_emb_val_of_index_zero (cfg0.win 2) t a rfl y).symm)

/-- The array of greatest weights. -/
theorem arr_values : (dats m 0 c).arrAt 3 cfg0.N = R4 m c := by
  refine Dat.arrAt_eq_of_covers (dats m 0 c) 3 (R4 m c) (by decide +kernel) fun t hf y => ?_
  blk_simp
  rw [after0_3]
  exact congrArg (R4 m c) (funext fun a => Fin.ext (Pipeline.Window.rect_emb_val_of_index_zero (cfg0.win 3) t a rfl y).symm)

/-- The array of their positions. -/
theorem arr_places : (dats m 0 c).arrAt 4 cfg0.N = R5 m c := by
  refine Dat.arrAt_eq_of_covers (dats m 0 c) 4 (R5 m c) (by decide +kernel) fun t hf y => ?_
  blk_simp
  rw [after0_4]
  exact congrArg (R5 m c) (funext fun a => Fin.ext (Pipeline.Window.rect_emb_val_of_index_zero (cfg0.win 4) t a rfl y).symm)

theorem arr_inj : Function.Injective (Pipeline.arrRef spec0) := by decide

/-- The lines after the region turn each array's last two axes about. -/
theorem tail_v3 : Pipeline.afterTail₀ cfgs (dats m) 0 (V0 m) [hostOps1] c main_v3
    = transpose S4x4096x16 [0, 2, 1] (R3 m c) transposes_S4x16x4096_S4x4096x16_0_2_1 := by
  unfold Pipeline.afterTail₀
  simp only [hostOps1, List.flatten_cons, List.flatten_nil, List.append_nil]
  after_results
  have e := (Pipeline.withArrays_arr spec0 arr_inj c (V0 m c) (fun w => (dats m 0 c).arrAt w cfg0.N) 2).trans (arr_weights m c)
  exact congrArg (fun z => transpose S4x4096x16 [0, 2, 1] z transposes_S4x16x4096_S4x4096x16_0_2_1) e

theorem tail_v4 : Pipeline.afterTail₀ cfgs (dats m) 0 (V0 m) [hostOps1] c main_v4
    = transpose S4x4096x2 [0, 2, 1] (R4 m c) transposes_S4x2x4096_S4x4096x2_0_2_1 := by
  unfold Pipeline.afterTail₀
  simp only [hostOps1, List.flatten_cons, List.flatten_nil, List.append_nil]
  after_results
  have e := (Pipeline.withArrays_arr spec0 arr_inj c (V0 m c) (fun w => (dats m 0 c).arrAt w cfg0.N) 3).trans (arr_values m c)
  exact congrArg (fun z => transpose S4x4096x2 [0, 2, 1] z transposes_S4x2x4096_S4x4096x2_0_2_1) e

theorem tail_v5 : Pipeline.afterTail₀ cfgs (dats m) 0 (V0 m) [hostOps1] c main_v5
    = transpose S4x4096x2 [0, 2, 1] (R5 m c) transposes_S4x2x4096_S4x4096x2_0_2_1 := by
  unfold Pipeline.afterTail₀
  simp only [hostOps1, List.flatten_cons, List.flatten_nil, List.append_nil]
  after_results
  have e := (Pipeline.withArrays_arr spec0 arr_inj c (V0 m c) (fun w => (dats m 0 c).arrAt w cfg0.N) 4).trans (arr_places m c)
  exact congrArg (fun z => transpose S4x4096x2 [0, 2, 1] z transposes_S4x2x4096_S4x4096x2_0_2_1) e

end Arrays

/-- The last two axes turned about, read by sequence, token and expert. -/
theorem turn_experts {α : Type} (R : S4x16x4096.Idx → α) (T : Fin 4 → Fin 4096 → Fin 16 → α) (h : ∀ a e s, R (ix3 a e s) = T a s e) :
    transpose S4x4096x16 [0, 2, 1] R transposes_S4x16x4096_S4x4096x16_0_2_1 = fun y => T (y 0) (y 1) (y 2) := by
  funext y
  rw [ValueIdx.eq_ix3 y]
  exact (transpose_ix3_021_apply R _ _ _ _).trans (h _ _ _)

/-- The same by sequence, token and rank. -/
theorem turn_ranks {α : Type} (R : S4x2x4096.Idx → α) (T : Fin 4 → Fin 4096 → Fin 2 → α) (h : ∀ a k s, R (ix3 a k s) = T a s k) :
    transpose S4x4096x2 [0, 2, 1] R transposes_S4x2x4096_S4x4096x2_0_2_1 = fun y => T (y 0) (y 1) (y 2) := by
  funext y
  rw [ValueIdx.eq_ix3 y]
  exact (transpose_ix3_021_apply R _ _ _ _).trans (h _ _ _)

variable (m : (ℓ : Loc nD τ sig) → Buf (Elt Ideal) ℓ) (ρ : Dev nD → PrngReg)

/-- On the extended reals the kernel ends with the weights, the two greatest of each token and their positions, its
    arguments unchanged. -/
theorem run_results : θ_run defs (onTc (τ := τ) (main (F := Ideal))) ⟨m, fun _ => 0, ρ⟩ (fun r => ∀ c : Dev nD,
      r.2.mem ((c.tc : Thread nD τ).loc main_v3) = outW (m ((c.tc : Thread nD τ).loc main_arg0)) (m ((c.tc : Thread nD τ).loc main_arg1)) (m ((c.tc : Thread nD τ).loc main_arg2))
      ∧ r.2.mem ((c.tc : Thread nD τ).loc main_v4) = outV (m ((c.tc : Thread nD τ).loc main_arg0)) (m ((c.tc : Thread nD τ).loc main_arg1)) (m ((c.tc : Thread nD τ).loc main_arg2))
      ∧ r.2.mem ((c.tc : Thread nD τ).loc main_v5) = outI (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, args_kept m h.1 c⟩) (run_main m ρ)
  · exact ((h.1 c).2 main_v3 (Pipeline.mem_restRefs_of main_v3 (by decide) (by decide))).trans
      ((tail_v3 m c).trans (turn_experts (R3 m c) _ (R3_apply m c)))
  · exact ((h.1 c).2 main_v4 (Pipeline.mem_restRefs_of main_v4 (by decide) (by decide))).trans
      ((tail_v4 m c).trans (turn_ranks (R4 m c) _ (R4_apply m c)))
  · exact ((h.1 c).2 main_v5 (Pipeline.mem_restRefs_of main_v5 (by decide) (by decide))).trans
      ((tail_v5 m c).trans (turn_ranks (R5 m c) _ (R5_apply m c)))

end Cert.KernelIdeal.Hand

end
-- ==== Proof.Reference.lean ====
/-
  The reference read at an index: the softmax of each token's scores and the first two of a stable sort of it.
-/
module

public import proofs.«01_k».proof.Proof.Gen.ReferenceIdeal.Run
public import proofs.«01_k».proof.Proof.Spec
public import Idealize.ShloMosaic.Lib.ValueIdx
public import Idealize.ShloMosaic.Lib.ValueLayout
public import Idealize.ShloMosaic.Lib.IdealHost
public import Idealize.ShloMosaic.Lib.StackMember
public import Idealize.ShloMosaic.Lib.KernelVsHost

@[expose] public section

set_option maxRecDepth 16384

noncomputable section

namespace Cert.ReferenceIdeal.Hand

open Cert.ReferenceIdeal Cert.ReferenceIdeal.Gen Cert.Pick
open Idealize.ShloMosaic
open Idealize.ShloMosaic.ValueIdx
open scoped BigOperators

/-! ## The two greatest -/

/-- The row of a table of weights. -/
def row (p : S16384x16.Idx → EReal) (t : Fin 16384) : Fin 16 → EReal := fun e => p (ix2 t e)

theorem along_col (t : Fin 16384) (k e : Fin 16) : (ix2 t k : S16384x16.Idx).along 1 e = ix2 t e := by
  funext a
  match a with
  | ⟨0, _⟩ => rfl
  | ⟨1, _⟩ => rfl

/-- The reference's comparison is the order by weight. -/
theorem gt_eq (p : S16384x16.Idx → EReal) (t : Fin 16384) (k : Fin 16) :
    (fun e e' : Fin 16 => FloatOps.cmpfTotal (F := Ideal) (φ := .f32) .gt (p ((ix2 t k : S16384x16.Idx).along 1 e)) (p ((ix2 t k : S16384x16.Idx).along 1 e')) == 1#1)
      = before (row p t) := by
  funext e e'
  rw [along_col, along_col]
  show (Ideal.cmp .ogt (p (ix2 t e)) (p (ix2 t e')) == 1#1) = decide (p (ix2 t e') < p (ix2 t e))
  unfold Ideal.cmp
  by_cases h : p (ix2 t e') < p (ix2 t e) <;> simp [h]

/-- A table sorted along its rows, with a second table carried. -/
theorem sort_row {β : Type} (p : S16384x16.Idx → EReal) (q : S16384x16.Idx → β) (t : Fin 16384) (k : Fin 16) :
    (Host.sort2 S16384x16 1 (fun l r => FloatOps.cmpfTotal (F := Ideal) (φ := .f32) .gt l.1 r.1) p q).1 (ix2 t k)
        = p (ix2 t (sortedFrom (before (row p t)) k))
      ∧ (Host.sort2 S16384x16 1 (fun l r => FloatOps.cmpfTotal (F := Ideal) (φ := .f32) .gt l.1 r.1) p q).2 (ix2 t k)
        = q (ix2 t (sortedFrom (before (row p t)) k)) := by
  have e := along_col t k (sortedFrom (before (row p t)) k)
  rw [← gt_eq p t k] at e ⊢
  rw [← e]
  exact ⟨rfl, rfl⟩

/-- The columns of the two greatest. -/
def col2 (k : Fin 2) : Fin 16 := ⟨k.val, lt_of_lt_of_le k.isLt (by decide)⟩

theorem first_two {α : Type} (v : S16384x16.Idx → α) (t : Fin 16384) (k : Fin 2) :
    extractStridedSlice S16384x2 (fun _ => 0) v sliceFits_S16384x16_S16384x2 (ix2 t k) = v (ix2 t (col2 k)) :=
  extractStridedSlice_apply _ v _ _ _ fun a => by
    match a with
    | ⟨0, _⟩ => exact (Nat.zero_add _).symm
    | ⟨1, _⟩ => exact (Nat.zero_add _).symm

theorem sorted_col (p : Fin 16 → EReal) (hp : ∀ e, p e ≠ ⊥) (k : Fin 2) :
    sortedFrom (before p) (col2 k) = if k = 0 then first p else second p := by
  match k with
  | 0 => exact (sorted_pair hp).1
  | 1 => exact (sorted_pair hp).2

/-- The table of columns the sort carries. -/
def cols : IVec S16384x16 32 := fun i => if hd : 1 < S16384x16.rank then iotaInDim S16384x16 32 ⟨1, hd⟩ i else 0#32

/-- The greatest two weights of a row without −∞. -/
theorem topK_values (p : S16384x16.Idx → EReal) (t : Fin 16384) (hp : ∀ e, row p t e ≠ ⊥) (k : Fin 2) :
    (Host.topK S16384x2 1 (FloatOps.cmpfTotal (F := Ideal) (φ := .f32) .gt) p sliceFits_S16384x16_S16384x2).1 (ix2 t k) = top (row p t) k := by
  refine (first_two (Host.sort2 S16384x16 1 (fun l r => FloatOps.cmpfTotal (F := Ideal) (φ := .f32) .gt l.1 r.1) p cols).1 t k).trans
    ((sort_row p cols t (col2 k)).1.trans ?_)
  rw [sorted_col _ hp]
  show row p t _ = _
  match k with
  | 0 => exact (first_spec (row p t)).1
  | 1 => exact at_second hp

/-- Their positions. -/
theorem topK_places (p : S16384x16.Idx → EReal) (t : Fin 16384) (hp : ∀ e, row p t e ≠ ⊥) (k : Fin 2) :
    (Host.topK S16384x2 1 (FloatOps.cmpfTotal (F := Ideal) (φ := .f32) .gt) p sliceFits_S16384x16_S16384x2).2 (ix2 t k) = place (row p t) k := by
  refine (first_two (Host.sort2 S16384x16 1 (fun l r => FloatOps.cmpfTotal (F := Ideal) (φ := .f32) .gt l.1 r.1) p cols).2 t k).trans
    ((sort_row p cols t (col2 k)).2.trans ?_)
  rw [sorted_col _ hp]
  rfl

/-! ## The weights -/

variable (x : S4x4096x2048.Idx → EReal) (w : S16x2048.Idx → EReal) (b : S16.Idx → EReal)

/-- The row of token `s` of sequence `a`. -/
def rowAt (a : Fin 4) (s : Fin 4096) : Fin 16384 := ⟨a.val * 4096 + s.val, by have := a.isLt; have := s.isLt; omega⟩

/-- The scores, as the reference forms them. -/
def scores : FVec Ideal S16384x16 .f32 :=
  addf (Host.dotGeneral (F := Ideal) (φ₁ := .f32) (φ₂ := .f32) dot_S16384x2048_S2048x16_S16384x16_1_0_0_1_n_n none
      (shapeCast S16384x2048 x shapeCasts_S4x4096x2048_S16384x2048) (transpose S2048x16 [1, 0] w transposes_S16x2048_S2048x16_1_0))
    (broadcastInDim S16384x16 ![0, 1] bcast_S1x16_S16384x16_0_1 (broadcastInDim S1x16 ![1] bcast_S16_S1x16_1 b))

theorem scores_apply (a : Fin 4) (s : Fin 4096) (e : Fin 16) :
    scores x w b (ix2 (rowAt a s) e) = score (fun k => w (ix2 e k)) (fun k => x (ix3 a s k)) (b (ix1 e)) := by
  unfold scores score
  rw [addf_apply]
  refine congrArg₂ (· + ·) ?_ ?_
  · refine (StackMember.dotGeneral_plain_apply (m := 16384) (k := 2048) (n := 16) none _ _ (rowAt a s) e).trans ?_
    refine Finset.sum_congr rfl fun k _ => ?_
    rw [mul_comm, transpose_ix2_apply]
    refine congrArg (w (ix2 e k) * ·) (shapeCast_apply x _ _ _ ?_)
    rw [Shape.rowMajor_val_three, Shape.rowMajor_val_two]
    rfl
  · rw [broadcastInDim_oneRow_apply]
    exact broadcastInDim_apply _ _ b _ (ix1 e) fun i => by match i with | ⟨0, _⟩ => rfl

/-- The greatest of each row. -/
def maxima (v : FVec Ideal S16384x16 .f32) : FVec Ideal S16384 .f32 :=
  maximumf (broadcastInDim S16384 ![] bcast_S_S16384 (constant S_ .f32 0xFF800000#32))
    (Host.reduce FloatOps.maximumf v (constant S_ .f32 0xFF800000#32) reducesTo_S16384x16_S16384_d1 h_S_)

theorem red : S16384x16.Reduces [1] S16384 := by decide

theorem lift_row (t : Fin 16384) (e : Fin 16) : red.lift (ix1 t) e = ix2 t e := by
  funext a; match a with | ⟨0, _⟩ => rfl | ⟨1, _⟩ => rfl

theorem ofBits_bot : Ideal.ofBits .f32 0xFF800000#32 = ⊥ := by simp [Ideal.ofBits, Ideal.ieee]

theorem maxima_apply (v : FVec Ideal S16384x16 .f32) (t : Fin 16384) : maxima v (ix1 t) = peak (row v t) := by
  have h1 : Host.reduce FloatOps.maximumf v (constant S_ .f32 0xFF800000#32) reducesTo_S16384x16_S16384_d1 h_S_ (ix1 t) = peak (row v t) := by
    refine (Host.reduce_eq_fold_single (max : EReal → EReal → EReal) v _ reducesTo_S16384x16_S16384_d1 red h_S_ (ix1 t)).trans ?_
    show (Finset.univ : Finset (Fin 16)).fold max (Ideal.ofBits .f32 0xFF800000#32) _ = _
    rw [ofBits_bot]
    unfold peak
    congr 1
    funext e
    exact congrArg v (lift_row t e)
  show max (Ideal.ofBits .f32 0xFF800000#32) (Host.reduce FloatOps.maximumf v _ _ _ (ix1 t)) = _
  rw [h1, ofBits_bot]
  exact max_eq_right bot_le

/-- A value for each row put across it. -/
theorem across {α : Type} (v : S16384.Idx → α) (t : Fin 16384) (e : Fin 16) :
    broadcastInDim S16384x16 ![0, 1] bcast_S16384x1_S16384x16_0_1 (broadcastInDim S16384x1 ![0] bcast_S16384_S16384x1_0 v) (ix2 t e) = v (ix1 t) :=
  (broadcastInDim_apply _ _ _ _ (ix2 t 0) fun i => by match i with | ⟨0, _⟩ => rfl | ⟨1, _⟩ => rfl).trans
    (broadcastInDim_apply _ _ v _ (ix1 t) fun i => by match i with | ⟨0, _⟩ => rfl)

/-- The exponentials. -/
def powers (v : FVec Ideal S16384x16 .f32) : FVec Ideal S16384x16 .f32 :=
  Host.exp (subf v (broadcastInDim S16384x16 ![0, 1] bcast_S16384x1_S16384x16_0_1 (broadcastInDim S16384x1 ![0] bcast_S16384_S16384x1_0 (maxima v))))

theorem powers_apply (v : FVec Ideal S16384x16 .f32) (t : Fin 16384) (e : Fin 16) :
    powers v (ix2 t e) = Ideal.exp (row v t e - peak (row v t)) := by
  have key : ∀ M : FVec Ideal S16384 .f32, Host.exp (subf v (broadcastInDim S16384x16 ![0, 1] bcast_S16384x1_S16384x16_0_1
      (broadcastInDim S16384x1 ![0] bcast_S16384_S16384x1_0 M))) (ix2 t e) = Ideal.exp (row v t e - M (ix1 t)) := fun M =>
    congrArg (fun z => Ideal.exp (v (ix2 t e) - z)) (across M t e)
  exact (key (maxima v)).trans (by rw [maxima_apply])

/-- The softmax of each row. -/
def weights (v : FVec Ideal S16384x16 .f32) : FVec Ideal S16384x16 .f32 :=
  Host.divf (powers v) (broadcastInDim S16384x16 ![0, 1] bcast_S16384x1_S16384x16_0_1 (broadcastInDim S16384x1 ![0] bcast_S16384_S16384x1_0
    (Host.reduceAdd (powers v) (constant S_ .f32 0x00000000#32) reducesTo_S16384x16_S16384_d1 h_S_)))

theorem weights_row (v : FVec Ideal S16384x16 .f32) (t : Fin 16384) : row (weights v) t = soft (row v t) := by
  funext e
  have key : ∀ P M, Host.divf (F := Ideal) (φ := .f32) P (broadcastInDim S16384x16 ![0, 1] bcast_S16384x1_S16384x16_0_1
      (broadcastInDim S16384x1 ![0] bcast_S16384_S16384x1_0 M)) (ix2 t e) = Ideal.div (P (ix2 t e)) (M (ix1 t)) := fun P M =>
    congrArg (Ideal.div (P (ix2 t e))) (across M t e)
  refine (key (powers v) _).trans ?_
  rw [hostReduceAdd_apply, Ideal.hostReduceAdd_single reducesTo_S16384x16_S16384_d1 red]
  unfold soft
  refine congrArg₂ Ideal.div (powers_apply v t e) ?_
  rw [show (constant (F := Ideal) S_ .f32 0x00000000#32) (Shape.Idx.first h_S_) = (0 : EReal) from Ideal.ofBits_zero_f32, zero_add]
  refine Finset.sum_congr rfl fun j _ => ?_
  exact (congrArg (powers v) (lift_row t j)).trans (powers_apply v t j)

/-- The reference's weights of token `s` of sequence `a`. -/
theorem weights_tok (a : Fin 4) (s : Fin 4096) : row (weights (scores x w b)) (rowAt a s) = tok x w b a s := by
  rw [weights_row]
  unfold tok
  congr 1
  funext e
  exact scores_apply x w b a s e

/-! ## The three results -/

/-- A table of rows read by sequence and token. -/
theorem by_token {α : Type} {n : ℕ} (v : (⟨2, ![16384, n]⟩ : Shape).Idx → α) (h : (⟨2, ![16384, n]⟩ : Shape).ShapeCasts ⟨3, ![4, 4096, n]⟩)
    (y : (⟨3, ![4, 4096, n]⟩ : Shape).Idx) : shapeCast ⟨3, ![4, 4096, n]⟩ v h y = v (ix2 (rowAt (y 0) (y 1)) (y 2)) :=
  shapeCast_apply v h _ _ (by rw [Shape.rowMajor_val_three, Shape.rowMajor_val_two]; rfl)

theorem res_weights : shapeCast S4x4096x16 (weights (scores x w b)) shapeCasts_S16384x16_S4x4096x16 = outW x w b := by
  funext y
  refine (by_token _ _ y).trans ?_
  exact congrFun (weights_tok x w b (y 0) (y 1)) (y 2)

theorem res_values (h : ∀ a s e, tok x w b a s e ≠ ⊥) :
    shapeCast S4x4096x2 ((Host.topK S16384x2 1 (FloatOps.cmpfTotal (F := Ideal) (φ := .f32) .gt) (weights (scores x w b)) sliceFits_S16384x16_S16384x2).1)
      shapeCasts_S16384x2_S4x4096x2 = outV x w b := by
  funext y
  refine (by_token _ _ y).trans ?_
  have e := weights_tok x w b (y 0) (y 1)
  refine (topK_values _ _ (fun j => by rw [e]; exact h _ _ _) (y 2)).trans ?_
  rw [e]; rfl

theorem res_places (h : ∀ a s e, tok x w b a s e ≠ ⊥) :
    shapeCast S4x4096x2 ((Host.topK S16384x2 1 (FloatOps.cmpfTotal (F := Ideal) (φ := .f32) .gt) (weights (scores x w b)) sliceFits_S16384x16_S16384x2).2)
      shapeCasts_S16384x2_S4x4096x2 = outI x w b := by
  funext y
  refine (by_token _ _ y).trans ?_
  have e := weights_tok x w b (y 0) (y 1)
  refine (topK_places _ _ (fun j => by rw [e]; exact h _ _ _) (y 2)).trans ?_
  rw [e]; rfl

end Cert.ReferenceIdeal.Hand

end
-- ==== Proof.Finite.lean ====
/-
  The precondition read: every element of the three arguments is a real number.
-/
module

public import proofs.«01_k».proof.Pre_finite
public import proofs.«01_k».proof.Proof.Ideal.Soft
public import Idealize.ShloMosaic.Lib.ReduceAll
public import Idealize.ShloMosaic.Lib.IdealHost

@[expose] public section

noncomputable section

namespace Cert.Pre_finite.Hand

open Cert.Pre_finite Cert.Pick
open Idealize.ShloMosaic

/-- The shape facts the predicate states. -/
theorem facts : Cert.Pre_finite.Facts where
  bcast_S_S4x4096x2048 := by decide
  reducesTo_S4x4096x2048_S_d0_1_2 := by decide
  h_S_ := by decide
  bcast_S_S16x2048 := by decide
  reducesTo_S16x2048_S_d0_1 := by decide
  bcast_S_S16 := by decide
  reducesTo_S16_S_d0 := by decide

instance : Subsingleton S_.Idx := ⟨fun i j => funext fun a => a.elim0⟩

theorem ofBits_top : Ideal.ofBits .f32 0x7F800000#32 = ⊤ := by simp [Ideal.ofBits, Ideal.ieee]

/-- A value whose magnitude is below +∞ is real. -/
theorem isReal_of_lt (a : EReal) (h : Ideal.cmp .olt (max a (-a)) ⊤ = 1#1) : IsReal a := by
  rw [isReal_iff]
  constructor <;> rintro rfl <;> simp [Ideal.cmp] at h

/-- An array whose magnitudes are all below +∞ holds real numbers. -/
theorem all_real {s : Shape} {axes : List (Fin s.rank)} (x : FVec Ideal s .f32) (hb : S_.BroadcastsInDim s ![]) (h : s.ReducesTo axes S_)
    (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : IsReal (x i) := by
  have h1 := Host.reduce_andi_all _ _ h hu j e i
  refine isReal_of_lt _ ?_
  rw [← ofBits_top]
  exact h1

theorem and_one {a b : BitVec 1} (h : a &&& b = 1#1) : a = 1#1 ∧ b = 1#1 := by
  revert a b; decide

/-- What the precondition says. -/
theorem real (hF : Cert.Pre_finite.Facts) (x : FVec Ideal S4x4096x2048 .f32) (w : FVec Ideal S16x2048 .f32) (b : FVec Ideal S16 .f32)
    (h : Cert.Pre_finite.fn (F := Ideal) x w b = fun _ => 1#1) : (∀ i, IsReal (x i)) ∧ (∀ i, IsReal (w i)) ∧ ∀ i, IsReal (b i) := by
  have h0 := congrFun h (fun a => a.elim0)
  obtain ⟨h1, hb⟩ := and_one h0
  obtain ⟨hx, hw⟩ := and_one h1
  exact ⟨all_real x _ _ _ _ hx, all_real w _ _ _ _ hw, all_real b _ _ _ _ hb⟩

end Cert.Pre_finite.Hand

end
-- ==== Proof.lean ====
/-
  The certificate: the frames of the kernel, of its ideal reading and of the reference, and the equality of their results.
-/
module

public import proofs.«01_k».proof.Defs
public import proofs.«01_k».proof.Proof.Same
public import proofs.«01_k».proof.Proof.Gen.ReferenceIdeal.Run
public import proofs.«01_k».proof.Proof.Ideal.Result
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs and leaves its arguments; it has no semaphore, so no counter can differ from zero. -/
theorem reference_frame : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- From equal finite arguments the kernel and the reference end with the same three results. -/
theorem same_results : Cert.algebraic_KernelIdeal_ReferenceIdeal_pre_finite (hPre_finite := Cert.Pre_finite.Hand.facts) := by
  intro m g m' g' hpre harg
  refine ⟨_, _, _, Cert.KernelIdeal.Hand.run_results m g, ?_⟩
  refine (θ_run Cert.ReferenceIdeal.defs _ _).mono (fun r h c => ?_) (Cert.ReferenceIdeal.Value.run (F := Ideal) m' g')
  obtain ⟨h17, h18, h19, hargs⟩ := h c
  obtain ⟨e0, e1, e2⟩ := harg c
  rw [e0, e1, e2] at h17 h18 h19
  obtain ⟨hx, hw, hb⟩ := Cert.Pre_finite.Hand.real Cert.Pre_finite.Hand.facts _ _ _ (hpre c)
  have hne := Cert.Pick.tok_ne_bot _ _ _ hx hw hb
  exact ⟨h17.trans (Cert.ReferenceIdeal.Hand.res_weights _ _ _), h18.trans (Cert.ReferenceIdeal.Hand.res_values _ _ _ hne),
    h19.trans (Cert.ReferenceIdeal.Hand.res_places _ _ _ hne), hargs⟩

/-- The whole certificate. -/
theorem claim : Cert.Claim := ⟨Cert.Kernel.Gen.facts, Cert.KernelIdeal.Gen.facts, Cert.ReferenceIdeal.Gen.facts, Cert.Pre_finite.Hand.facts,
  kernel_frame, fun m g _ => Cert.KernelIdeal.Hand.frame_run m g, fun m g _ => Cert.KernelIdeal.Hand.frame_run m g,
  reference_frame, fun m g _ => reference_frame m g trivial, trivial, same_results⟩

end Cert.Proof

end
